-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_in_range [hPre_gamma_in_range : Cert.Pre_gamma_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_in_range [hPre_gamma_in_range : Cert.Pre_gamma_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_gamma_in_range [hKernelIdeal : Cert.KernelIdeal.Facts] [hPre_gamma_in_range : Cert.Pre_gamma_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_gamma_in_range [hReferenceIdeal : Cert.ReferenceIdeal.Facts] [hPre_gamma_in_range : Cert.Pre_gamma_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_gamma_in_range [hKernelIdeal : Cert.KernelIdeal.Facts] [hReferenceIdeal : Cert.ReferenceIdeal.Facts] [hPre_gamma_in_range : Cert.Pre_gamma_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_gamma_in_range : Cert.Pre_gamma_in_range.Facts),
    quiescent_Kernel (hKernel := hKernel)
    ∧ quiescent_KernelIdeal (hKernelIdeal := hKernelIdeal)
    ∧ quiescent_KernelIdeal_pre_gamma_in_range (hKernelIdeal := hKernelIdeal) (hPre_gamma_in_range := hPre_gamma_in_range)
    ∧ quiescent_ReferenceIdeal (hReferenceIdeal := hReferenceIdeal)
    ∧ quiescent_ReferenceIdeal_pre_gamma_in_range (hReferenceIdeal := hReferenceIdeal) (hPre_gamma_in_range := hPre_gamma_in_range)
    ∧ preserves_Kernel_KernelIdeal
    ∧ algebraic_KernelIdeal_ReferenceIdeal_pre_gamma_in_range (hKernelIdeal := hKernelIdeal) (hReferenceIdeal := hReferenceIdeal) (hPre_gamma_in_range := hPre_gamma_in_range)
-- ==== Pre_gamma_in_range.lean ====
abbrev S8x192x224x224 : Shape := ⟨4, ![8, 192, 224, 224]⟩
abbrev S_ : Shape := ⟨0, ![]⟩

class Facts : Prop where

variable [Facts]

def fn {F : FTy → Type} [FloatOps F] (main_arg0 : FVec F S8x192x224x224 .f32) (main_arg1 : FVec F S_ .f32) : IVec S_ 1 :=
  let main_cst : FVec F S_ .f32 := constant S_ .f32 0x00000000#32
  let main_v0 : IVec S_ 1 := cmpf .oge main_arg1 main_cst
  let main_cst_0 : FVec F S_ .f32 := constant S_ .f32 0x3F7FFFFE#32
  let main_v1 : IVec S_ 1 := cmpf .ole main_arg1 main_cst_0
  let main_v2 : IVec S_ 1 := andi main_v0 main_v1
  main_v2
-- ==== Kernel.lean ====
abbrev S8x192x224x224 : Shape := ⟨4, ![8, 192, 224, 224]⟩
abbrev S_ : Shape := ⟨0, ![]⟩
abbrev S224x224 : Shape := ⟨2, ![224, 224]⟩
abbrev S1536x224x224 : Shape := ⟨3, ![1536, 224, 224]⟩
abbrev S64x224x224 : Shape := ⟨3, ![64, 224, 224]⟩
abbrev S1x1 : Shape := ⟨2, ![1, 1]⟩
abbrev S1x224x224 : Shape := ⟨3, ![1, 224, 224]⟩
abbrev S1 : Shape := ⟨1, ![1]⟩
abbrev S1x1x1 : Shape := ⟨3, ![1, 1, 1]⟩
abbrev S48x224x224 : Shape := ⟨3, ![48, 224, 224]⟩
abbrev S2x224x224 : Shape := ⟨3, ![2, 224, 224]⟩

abbrev nBuf : Space → Nat
  | .hbm => 22
  | .vmem => 12
  | .smem => 2
  | _ => 0

abbrev bufTy : (tb : Table) → Fin (tcTables nBuf tb) → BufTy
  | .hbm, ⟨0, _⟩ => ⟨S8x192x224x224, .f32⟩
  | .hbm, ⟨1, _⟩ => ⟨S_, .f32⟩
  | .hbm, ⟨2, _⟩ => ⟨S224x224, .i32⟩
  | .hbm, ⟨3, _⟩ => ⟨S224x224, .i1⟩
  | .hbm, ⟨4, _⟩ => ⟨S224x224, .f32⟩
  | .hbm, ⟨5, _⟩ => ⟨S1536x224x224, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S224x224, .i32⟩
  | .hbm, ⟨15, _⟩ => ⟨S224x224, .i32⟩
  | .hbm, ⟨16, _⟩ => ⟨S224x224, .i32⟩
  | .hbm, ⟨17, _⟩ => ⟨S224x224, .f32⟩
  | .hbm, ⟨18, _⟩ => ⟨S64x224x224, .i32⟩
  | .hbm, ⟨19, _⟩ => ⟨S1x1, .i32⟩
  | .hbm, ⟨20, _⟩ => ⟨S1536x224x224, .f32⟩
  | .hbm, ⟨21, _⟩ => ⟨S8x192x224x224, .f32⟩
  | .local _ .vmem, ⟨0, _⟩ => ⟨S224x224, .i32⟩
  | .local _ .vmem, ⟨1, _⟩ => ⟨S224x224, .i32⟩
  | .local _ .vmem, ⟨2, _⟩ => ⟨S224x224, .f32⟩
  | .local _ .vmem, ⟨3, _⟩ => ⟨S224x224, .f32⟩
  | .local _ .vmem, ⟨4, _⟩ => ⟨S1x224x224, .i32⟩
  | .local _ .vmem, ⟨5, _⟩ => ⟨S1x224x224, .i32⟩
  | .local _ .vmem, ⟨6, _⟩ => ⟨S48x224x224, .f32⟩
  | .local _ .vmem, ⟨7, _⟩ => ⟨S48x224x224, .f32⟩
  | .local _ .vmem, ⟨8, _⟩ => ⟨S2x224x224, .i32⟩
  | .local _ .vmem, ⟨9, _⟩ => ⟨S2x224x224, .i32⟩
  | .local _ .vmem, ⟨10, _⟩ => ⟨S48x224x224, .f32⟩
  | .local _ .vmem, ⟨11, _⟩ => ⟨S48x224x224, .f32⟩
  | .local _ .smem, ⟨0, _⟩ => ⟨S1x1, .i32⟩
  | .local _ .smem, ⟨1, _⟩ => ⟨S1x1, .i32⟩
  | _, _ => ⟨S8x192x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_cst : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_2 : Ref sig .tc := ⟨.hbm, 11, rfl⟩
abbrev main_v5 : Ref sig .tc := ⟨.hbm, 12, rfl⟩
abbrev main_c_3 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_stg5_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S224x224 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S224x224 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S224x224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S224x224 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x224x224 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S1x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S48x224x224 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x224x224 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S48x224x224 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S8x192x224x224 : Shape := ⟨4, ![8, 192, 224, 224]⟩
abbrev S_ : Shape := ⟨0, ![]⟩
abbrev S1 : Shape := ⟨1, ![1]⟩
abbrev S2 : Shape := ⟨1, ![2]⟩
abbrev S8x192x220x220 : Shape := ⟨4, ![8, 192, 220, 220]⟩
abbrev S8x192x228x228 : Shape := ⟨4, ![8, 192, 228, 228]⟩

abbrev nBuf : Space → Nat
  | .hbm => 527
  | .vmem => 0
  | .smem => 0
  | _ => 0

abbrev hbmTy0_0 (i : Nat) : BufTy := match i % 128 with
  | 0 => ⟨S8x192x224x224, .f32⟩
  | 1 => ⟨S_, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S1, .i32⟩
  | 19 => ⟨S2, .i32⟩
  | 20 => ⟨S1, .i32⟩
  | 21 => ⟨S_, .i32⟩
  | 22 => ⟨S1, .i32⟩
  | 23 => ⟨S_, .i32⟩
  | 24 => ⟨S1, .i32⟩
  | 25 => ⟨S1, .i32⟩
  | 26 => ⟨S_, .i32⟩
  | 27 => ⟨S_, .i32⟩
  | 28 => ⟨S_, .i32⟩
  | 29 => ⟨S1, .i32⟩
  | 30 => ⟨S1, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S_, .i32⟩
  | 124 => ⟨S1, .i32⟩
  | 125 => ⟨S1, .i32⟩
  | 126 => ⟨S1, .i32⟩
  | 127 => ⟨S1, .i32⟩
  | _ => ⟨S8x192x224x224, .f32⟩

abbrev hbmTy0_1 (i : Nat) : BufTy := match i % 128 with
  | 0 => ⟨S1, .i32⟩
  | 1 => ⟨S_, .i32⟩
  | 2 => ⟨S1, .i32⟩
  | 3 => ⟨S1, .i32⟩
  | 4 => ⟨S_, .i32⟩
  | 5 => ⟨S1, .i32⟩
  | 6 => ⟨S1, .i32⟩
  | 7 => ⟨S1, .i32⟩
  | 8 => ⟨S1, .i32⟩
  | 9 => ⟨S1, .i32⟩
  | 10 => ⟨S_, .i32⟩
  | 11 => ⟨S1, .i32⟩
  | 12 => ⟨S1, .i32⟩
  | 13 => ⟨S_, .i32⟩
  | 14 => ⟨S1, .i32⟩
  | 15 => ⟨S1, .i32⟩
  | 16 => ⟨S1, .i32⟩
  | 17 => ⟨S1, .i32⟩
  | 18 => ⟨S1, .i32⟩
  | 19 => ⟨S_, .i32⟩
  | 20 => ⟨S1, .i32⟩
  | 21 => ⟨S1, .i32⟩
  | 22 => ⟨S_, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S_, .i32⟩
  | 39 => ⟨S1, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S1, .i32⟩
  | 86 => ⟨S1, .i32⟩
  | 87 => ⟨S_, .i32⟩
  | 88 => ⟨S1, .i32⟩
  | 89 => ⟨S1, .i32⟩
  | 90 => ⟨S_, .i32⟩
  | 91 => ⟨S1, .i32⟩
  | 92 => ⟨S1, .i32⟩
  | 93 => ⟨S1, .i32⟩
  | 94 => ⟨S1, .i32⟩
  | 95 => ⟨S1, .i32⟩
  | 96 => ⟨S_, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S_, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S2, .i32⟩
  | 121 => ⟨S1, .i32⟩
  | 122 => ⟨S_, .i32⟩
  | 123 => ⟨S1, .i32⟩
  | 124 => ⟨S_, .i32⟩
  | 125 => ⟨S8x192x220x220, .i64⟩
  | 126 => ⟨S8x192x220x220, .i64⟩
  | 127 => ⟨S8x192x220x220, .i64⟩
  | _ => ⟨S8x192x224x224, .f32⟩

abbrev hbmTy0_2 (i : Nat) : BufTy := match i % 128 with
  | 0 => ⟨S8x192x220x220, .i64⟩
  | 1 => ⟨S_, .i64⟩
  | 2 => ⟨S8x192x220x220, .i64⟩
  | 3 => ⟨S8x192x220x220, .i64⟩
  | 4 => ⟨S_, .i64⟩
  | 5 => ⟨S8x192x220x220, .i64⟩
  | 6 => ⟨S8x192x220x220, .i64⟩
  | 7 => ⟨S_, .i64⟩
  | 8 => ⟨S8x192x220x220, .i64⟩
  | 9 => ⟨S8x192x220x220, .i64⟩
  | 10 => ⟨S_, .i64⟩
  | 11 => ⟨S8x192x220x220, .i64⟩
  | 12 => ⟨S8x192x220x220, .i64⟩
  | 13 => ⟨S8x192x220x220, .i64⟩
  | 14 => ⟨S8x192x220x220, .i64⟩
  | 15 => ⟨S8x192x220x220, .i64⟩
  | 16 => ⟨S_, .i64⟩
  | 17 => ⟨S8x192x220x220, .i64⟩
  | 18 => ⟨S8x192x220x220, .i64⟩
  | 19 => ⟨S8x192x220x220, .i32⟩
  | 20 => ⟨S8x192x220x220, .i32⟩
  | 21 => ⟨S_, .i32⟩
  | 22 => ⟨S_, .i32⟩
  | 23 => ⟨S_, .i32⟩
  | 24 => ⟨S8x192x220x220, .i32⟩
  | 25 => ⟨S8x192x220x220, .i32⟩
  | 26 => ⟨S8x192x220x220, .i32⟩
  | 27 => ⟨S8x192x220x220, .i32⟩
  | 28 => ⟨S8x192x220x220, .i32⟩
  | 29 => ⟨S_, .i32⟩
  | 30 => ⟨S8x192x220x220, .i32⟩
  | 31 => ⟨S8x192x220x220, .i32⟩
  | 32 => ⟨S_, .i32⟩
  | 33 => ⟨S8x192x220x220, .i32⟩
  | 34 => ⟨S8x192x220x220, .i32⟩
  | 35 => ⟨S8x192x220x220, .i32⟩
  | 36 => ⟨S8x192x220x220, .i32⟩
  | 37 => ⟨S8x192x220x220, .i32⟩
  | 38 => ⟨S_, .i32⟩
  | 39 => ⟨S8x192x220x220, .i32⟩
  | 40 => ⟨S8x192x220x220, .i32⟩
  | 41 => ⟨S_, .i32⟩
  | 42 => ⟨S8x192x220x220, .i32⟩
  | 43 => ⟨S8x192x220x220, .i32⟩
  | 44 => ⟨S8x192x220x220, .i32⟩
  | 45 => ⟨S8x192x220x220, .i32⟩
  | 46 => ⟨S8x192x220x220, .i32⟩
  | 47 => ⟨S_, .i32⟩
  | 48 => ⟨S8x192x220x220, .i32⟩
  | 49 => ⟨S8x192x220x220, .i32⟩
  | 50 => ⟨S_, .i32⟩
  | 51 => ⟨S8x192x220x220, .i32⟩
  | 52 => ⟨S8x192x220x220, .i32⟩
  | 53 => ⟨S8x192x220x220, .i32⟩
  | 54 => ⟨S8x192x220x220, .i32⟩
  | 55 => ⟨S8x192x220x220, .i32⟩
  | 56 => ⟨S_, .i32⟩
  | 57 => ⟨S8x192x220x220, .i32⟩
  | 58 => ⟨S8x192x220x220, .i32⟩
  | 59 => ⟨S_, .i32⟩
  | 60 => ⟨S8x192x220x220, .i32⟩
  | 61 => ⟨S8x192x220x220, .i32⟩
  | 62 => ⟨S8x192x220x220, .i32⟩
  | 63 => ⟨S8x192x220x220, .i32⟩
  | 64 => ⟨S8x192x220x220, .i32⟩
  | 65 => ⟨S8x192x220x220, .i32⟩
  | 66 => ⟨S8x192x220x220, .i32⟩
  | 67 => ⟨S8x192x220x220, .i32⟩
  | 68 => ⟨S_, .i32⟩
  | 69 => ⟨S8x192x220x220, .i32⟩
  | 70 => ⟨S8x192x220x220, .i32⟩
  | 71 => ⟨S8x192x220x220, .i32⟩
  | 72 => ⟨S_, .i32⟩
  | 73 => ⟨S8x192x220x220, .i32⟩
  | 74 => ⟨S8x192x220x220, .i32⟩
  | 75 => ⟨S_, .i32⟩
  | 76 => ⟨S8x192x220x220, .i32⟩
  | 77 => ⟨S8x192x220x220, .i32⟩
  | 78 => ⟨S8x192x220x220, .i32⟩
  | 79 => ⟨S8x192x220x220, .i32⟩
  | 80 => ⟨S8x192x220x220, .i32⟩
  | 81 => ⟨S_, .i32⟩
  | 82 => ⟨S8x192x220x220, .i32⟩
  | 83 => ⟨S8x192x220x220, .i32⟩
  | 84 => ⟨S_, .i32⟩
  | 85 => ⟨S8x192x220x220, .i32⟩
  | 86 => ⟨S8x192x220x220, .i32⟩
  | 87 => ⟨S8x192x220x220, .i32⟩
  | 88 => ⟨S8x192x220x220, .i32⟩
  | 89 => ⟨S8x192x220x220, .i32⟩
  | 90 => ⟨S_, .i32⟩
  | 91 => ⟨S8x192x220x220, .i32⟩
  | 92 => ⟨S8x192x220x220, .i32⟩
  | 93 => ⟨S_, .i32⟩
  | 94 => ⟨S8x192x220x220, .i32⟩
  | 95 => ⟨S8x192x220x220, .i32⟩
  | 96 => ⟨S8x192x220x220, .i32⟩
  | 97 => ⟨S8x192x220x220, .i32⟩
  | 98 => ⟨S8x192x220x220, .i32⟩
  | 99 => ⟨S_, .i32⟩
  | 100 => ⟨S8x192x220x220, .i32⟩
  | 101 => ⟨S8x192x220x220, .i32⟩
  | 102 => ⟨S_, .i32⟩
  | 103 => ⟨S8x192x220x220, .i32⟩
  | 104 => ⟨S8x192x220x220, .i32⟩
  | 105 => ⟨S8x192x220x220, .i32⟩
  | 106 => ⟨S8x192x220x220, .i32⟩
  | 107 => ⟨S8x192x220x220, .i32⟩
  | 108 => ⟨S8x192x220x220, .i32⟩
  | 109 => ⟨S8x192x220x220, .i32⟩
  | 110 => ⟨S8x192x220x220, .i32⟩
  | 111 => ⟨S_, .i32⟩
  | 112 => ⟨S8x192x220x220, .i32⟩
  | 113 => ⟨S8x192x220x220, .i32⟩
  | 114 => ⟨S8x192x220x220, .i32⟩
  | 115 => ⟨S_, .i32⟩
  | 116 => ⟨S8x192x220x220, .i32⟩
  | 117 => ⟨S8x192x220x220, .i32⟩
  | 118 => ⟨S_, .i32⟩
  | 119 => ⟨S8x192x220x220, .i32⟩
  | 120 => ⟨S8x192x220x220, .i32⟩
  | 121 => ⟨S8x192x220x220, .i32⟩
  | 122 => ⟨S8x192x220x220, .i32⟩
  | 123 => ⟨S8x192x220x220, .i32⟩
  | 124 => ⟨S_, .i32⟩
  | 125 => ⟨S8x192x220x220, .i32⟩
  | 126 => ⟨S8x192x220x220, .i32⟩
  | 127 => ⟨S_, .i32⟩
  | _ => ⟨S8x192x224x224, .f32⟩

abbrev hbmTy0_3 (i : Nat) : BufTy := match i % 128 with
  | 0 => ⟨S8x192x220x220, .i32⟩
  | 1 => ⟨S8x192x220x220, .i32⟩
  | 2 => ⟨S8x192x220x220, .i32⟩
  | 3 => ⟨S8x192x220x220, .i32⟩
  | 4 => ⟨S8x192x220x220, .i32⟩
  | 5 => ⟨S_, .i32⟩
  | 6 => ⟨S8x192x220x220, .i32⟩
  | 7 => ⟨S8x192x220x220, .i32⟩
  | 8 => ⟨S_, .i32⟩
  | 9 => ⟨S8x192x220x220, .i32⟩
  | 10 => ⟨S8x192x220x220, .i32⟩
  | 11 => ⟨S8x192x220x220, .i32⟩
  | 12 => ⟨S8x192x220x220, .i32⟩
  | 13 => ⟨S8x192x220x220, .i32⟩
  | 14 => ⟨S_, .i32⟩
  | 15 => ⟨S8x192x220x220, .i32⟩
  | 16 => ⟨S8x192x220x220, .i32⟩
  | 17 => ⟨S_, .i32⟩
  | 18 => ⟨S8x192x220x220, .i32⟩
  | 19 => ⟨S8x192x220x220, .i32⟩
  | 20 => ⟨S8x192x220x220, .i32⟩
  | 21 => ⟨S8x192x220x220, .i32⟩
  | 22 => ⟨S8x192x220x220, .i32⟩
  | 23 => ⟨S8x192x220x220, .i32⟩
  | 24 => ⟨S8x192x220x220, .i32⟩
  | 25 => ⟨S8x192x220x220, .i32⟩
  | 26 => ⟨S_, .i32⟩
  | 27 => ⟨S8x192x220x220, .i32⟩
  | 28 => ⟨S8x192x220x220, .i32⟩
  | 29 => ⟨S8x192x220x220, .i32⟩
  | 30 => ⟨S_, .i32⟩
  | 31 => ⟨S8x192x220x220, .i32⟩
  | 32 => ⟨S8x192x220x220, .i32⟩
  | 33 => ⟨S_, .i32⟩
  | 34 => ⟨S8x192x220x220, .i32⟩
  | 35 => ⟨S8x192x220x220, .i32⟩
  | 36 => ⟨S8x192x220x220, .i32⟩
  | 37 => ⟨S8x192x220x220, .i32⟩
  | 38 => ⟨S8x192x220x220, .i32⟩
  | 39 => ⟨S_, .i32⟩
  | 40 => ⟨S8x192x220x220, .i32⟩
  | 41 => ⟨S8x192x220x220, .i32⟩
  | 42 => ⟨S_, .i32⟩
  | 43 => ⟨S8x192x220x220, .i32⟩
  | 44 => ⟨S8x192x220x220, .i32⟩
  | 45 => ⟨S8x192x220x220, .i32⟩
  | 46 => ⟨S8x192x220x220, .i32⟩
  | 47 => ⟨S8x192x220x220, .i32⟩
  | 48 => ⟨S_, .i32⟩
  | 49 => ⟨S8x192x220x220, .i32⟩
  | 50 => ⟨S8x192x220x220, .i32⟩
  | 51 => ⟨S_, .i32⟩
  | 52 => ⟨S8x192x220x220, .i32⟩
  | 53 => ⟨S8x192x220x220, .i32⟩
  | 54 => ⟨S8x192x220x220, .i32⟩
  | 55 => ⟨S8x192x220x220, .i32⟩
  | 56 => ⟨S8x192x220x220, .i32⟩
  | 57 => ⟨S_, .i32⟩
  | 58 => ⟨S8x192x220x220, .i32⟩
  | 59 => ⟨S8x192x220x220, .i32⟩
  | 60 => ⟨S_, .i32⟩
  | 61 => ⟨S8x192x220x220, .i32⟩
  | 62 => ⟨S8x192x220x220, .i32⟩
  | 63 => ⟨S8x192x220x220, .i32⟩
  | 64 => ⟨S8x192x220x220, .i32⟩
  | 65 => ⟨S8x192x220x220, .i32⟩
  | 66 => ⟨S8x192x220x220, .i32⟩
  | 67 => ⟨S8x192x220x220, .i32⟩
  | 68 => ⟨S8x192x220x220, .i32⟩
  | 69 => ⟨S_, .i32⟩
  | 70 => ⟨S8x192x220x220, .i32⟩
  | 71 => ⟨S8x192x220x220, .i32⟩
  | 72 => ⟨S8x192x220x220, .i32⟩
  | 73 => ⟨S_, .i32⟩
  | 74 => ⟨S8x192x220x220, .i32⟩
  | 75 => ⟨S8x192x220x220, .i32⟩
  | 76 => ⟨S_, .i32⟩
  | 77 => ⟨S8x192x220x220, .i32⟩
  | 78 => ⟨S8x192x220x220, .i32⟩
  | 79 => ⟨S8x192x220x220, .i32⟩
  | 80 => ⟨S8x192x220x220, .i32⟩
  | 81 => ⟨S8x192x220x220, .i32⟩
  | 82 => ⟨S_, .i32⟩
  | 83 => ⟨S8x192x220x220, .i32⟩
  | 84 => ⟨S8x192x220x220, .i32⟩
  | 85 => ⟨S_, .i32⟩
  | 86 => ⟨S8x192x220x220, .i32⟩
  | 87 => ⟨S8x192x220x220, .i32⟩
  | 88 => ⟨S8x192x220x220, .i32⟩
  | 89 => ⟨S8x192x220x220, .i32⟩
  | 90 => ⟨S8x192x220x220, .i32⟩
  | 91 => ⟨S_, .i32⟩
  | 92 => ⟨S8x192x220x220, .i32⟩
  | 93 => ⟨S8x192x220x220, .i32⟩
  | 94 => ⟨S_, .i32⟩
  | 95 => ⟨S8x192x220x220, .i32⟩
  | 96 => ⟨S8x192x220x220, .i32⟩
  | 97 => ⟨S8x192x220x220, .i32⟩
  | 98 => ⟨S8x192x220x220, .i32⟩
  | 99 => ⟨S8x192x220x220, .i32⟩
  | 100 => ⟨S_, .i32⟩
  | 101 => ⟨S8x192x220x220, .i32⟩
  | 102 => ⟨S8x192x220x220, .i32⟩
  | 103 => ⟨S_, .i32⟩
  | 104 => ⟨S8x192x220x220, .i32⟩
  | 105 => ⟨S8x192x220x220, .i32⟩
  | 106 => ⟨S8x192x220x220, .i32⟩
  | 107 => ⟨S8x192x220x220, .i32⟩
  | 108 => ⟨S8x192x220x220, .i32⟩
  | 109 => ⟨S8x192x220x220, .i32⟩
  | 110 => ⟨S8x192x220x220, .i32⟩
  | 111 => ⟨S8x192x220x220, .i32⟩
  | 112 => ⟨S_, .i32⟩
  | 113 => ⟨S8x192x220x220, .i32⟩
  | 114 => ⟨S8x192x220x220, .i32⟩
  | 115 => ⟨S8x192x220x220, .i32⟩
  | 116 => ⟨S_, .i32⟩
  | 117 => ⟨S8x192x220x220, .i32⟩
  | 118 => ⟨S8x192x220x220, .i32⟩
  | 119 => ⟨S8x192x220x220, .i32⟩
  | 120 => ⟨S8x192x220x220, .f32⟩
  | 121 => ⟨S_, .f32⟩
  | 122 => ⟨S8x192x220x220, .f32⟩
  | 123 => ⟨S8x192x220x220, .f32⟩
  | 124 => ⟨S8x192x220x220, .f32⟩
  | 125 => ⟨S8x192x220x220, .i1⟩
  | 126 => ⟨S8x192x220x220, .f32⟩
  | 127 => ⟨S_, .i32⟩
  | _ => ⟨S8x192x224x224, .f32⟩

abbrev hbmTy0_4 (i : Nat) : BufTy := match i % 128 with
  | 0 => ⟨S_, .f32⟩
  | 1 => ⟨S8x192x228x228, .f32⟩
  | 2 => ⟨S_, .f32⟩
  | 3 => ⟨S_, .f32⟩
  | 4 => ⟨S8x192x224x224, .f32⟩
  | 5 => ⟨S_, .f32⟩
  | 6 => ⟨S8x192x224x224, .f32⟩
  | 7 => ⟨S8x192x224x224, .f32⟩
  | 8 => ⟨S_, .f32⟩
  | 9 => ⟨S_, .f32⟩
  | 10 => ⟨S8x192x224x224, .f32⟩
  | 11 => ⟨S_, .f32⟩
  | 12 => ⟨S_, .f32⟩
  | 13 => ⟨S8x192x224x224, .f32⟩
  | 14 => ⟨S8x192x224x224, .f32⟩
  | _ => ⟨S8x192x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x192x224x224, .f32⟩

abbrev bufTy : (tb : Table) → Fin (tcTables nBuf tb) → BufTy
  | .hbm, ⟨i, _⟩ => hbmTy i
  | _, _ => ⟨S8x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_call0_v0 : Ref sig .tc := ⟨.hbm, 26, rfl⟩
abbrev main_call0_call0_c : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_c_0 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_c_1 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_call0_v12 : Ref sig .tc := ⟨.hbm, 41, rfl⟩
abbrev main_call0_call0_v13 : Ref sig .tc := ⟨.hbm, 42, rfl⟩
abbrev main_call0_call0_c_2 : Ref sig .tc := ⟨.hbm, 43, rfl⟩
abbrev main_call0_call0_v14 : Ref sig .tc := ⟨.hbm, 44, rfl⟩
abbrev main_call0_call0_v15 : Ref sig .tc := ⟨.hbm, 45, rfl⟩
abbrev main_call0_call0_c_3 : Ref sig .tc := ⟨.hbm, 46, rfl⟩
abbrev main_call0_call0_v16 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_c_4 : Ref sig .tc := ⟨.hbm, 52, rfl⟩
abbrev main_call0_call0_v21 : Ref sig .tc := ⟨.hbm, 53, rfl⟩
abbrev main_call0_call0_v22 : Ref sig .tc := ⟨.hbm, 54, rfl⟩
abbrev main_call0_call0_c_5 : Ref sig .tc := ⟨.hbm, 55, rfl⟩
abbrev main_call0_call0_v23 : Ref sig .tc := ⟨.hbm, 56, rfl⟩
abbrev main_call0_call0_v24 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_v27 : Ref sig .tc := ⟨.hbm, 60, rfl⟩
abbrev main_call0_call0_c_6 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_c_7 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_v32 : Ref sig .tc := ⟨.hbm, 67, rfl⟩
abbrev main_call0_call0_v33 : Ref sig .tc := ⟨.hbm, 68, rfl⟩
abbrev main_call0_call0_v34 : Ref sig .tc := ⟨.hbm, 69, rfl⟩
abbrev main_call0_call0_v35 : Ref sig .tc := ⟨.hbm, 70, rfl⟩
abbrev main_call0_call0_v36 : Ref sig .tc := ⟨.hbm, 71, rfl⟩
abbrev main_call0_call0_v37 : Ref sig .tc := ⟨.hbm, 72, rfl⟩
abbrev main_call0_call0_c_8 : Ref sig .tc := ⟨.hbm, 73, rfl⟩
abbrev main_call0_call0_v38 : Ref sig .tc := ⟨.hbm, 74, rfl⟩
abbrev main_call0_call0_v39 : Ref sig .tc := ⟨.hbm, 75, rfl⟩
abbrev main_call0_call0_v40 : Ref sig .tc := ⟨.hbm, 76, rfl⟩
abbrev main_call0_call0_c_9 : Ref sig .tc := ⟨.hbm, 77, rfl⟩
abbrev main_call0_call0_v41 : Ref sig .tc := ⟨.hbm, 78, rfl⟩
abbrev main_call0_call0_v42 : Ref sig .tc := ⟨.hbm, 79, rfl⟩
abbrev main_call0_call0_c_10 : Ref sig .tc := ⟨.hbm, 80, rfl⟩
abbrev main_call0_call0_v43 : Ref sig .tc := ⟨.hbm, 81, rfl⟩
abbrev main_call0_call0_v44 : Ref sig .tc := ⟨.hbm, 82, rfl⟩
abbrev main_call0_call0_v45 : Ref sig .tc := ⟨.hbm, 83, rfl⟩
abbrev main_call0_call0_v46 : Ref sig .tc := ⟨.hbm, 84, rfl⟩
abbrev main_call0_call0_v47 : Ref sig .tc := ⟨.hbm, 85, rfl⟩
abbrev main_call0_call0_c_11 : Ref sig .tc := ⟨.hbm, 86, rfl⟩
abbrev main_call0_call0_v48 : Ref sig .tc := ⟨.hbm, 87, rfl⟩
abbrev main_call0_call0_v49 : Ref sig .tc := ⟨.hbm, 88, rfl⟩
abbrev main_call0_call0_c_12 : Ref sig .tc := ⟨.hbm, 89, rfl⟩
abbrev main_call0_call0_v50 : Ref sig .tc := ⟨.hbm, 90, rfl⟩
abbrev main_call0_call0_v51 : Ref sig .tc := ⟨.hbm, 91, rfl⟩
abbrev main_call0_call0_v52 : Ref sig .tc := ⟨.hbm, 92, rfl⟩
abbrev main_call0_call0_v53 : Ref sig .tc := ⟨.hbm, 93, rfl⟩
abbrev main_call0_call0_v54 : Ref sig .tc := ⟨.hbm, 94, rfl⟩
abbrev main_call0_call0_c_13 : Ref sig .tc := ⟨.hbm, 95, rfl⟩
abbrev main_call0_call0_v55 : Ref sig .tc := ⟨.hbm, 96, rfl⟩
abbrev main_call0_call0_v56 : Ref sig .tc := ⟨.hbm, 97, rfl⟩
abbrev main_call0_call0_c_14 : Ref sig .tc := ⟨.hbm, 98, rfl⟩
abbrev main_call0_call0_v57 : Ref sig .tc := ⟨.hbm, 99, rfl⟩
abbrev main_call0_call0_v58 : Ref sig .tc := ⟨.hbm, 100, rfl⟩
abbrev main_call0_call0_v59 : Ref sig .tc := ⟨.hbm, 101, rfl⟩
abbrev main_call0_call0_v60 : Ref sig .tc := ⟨.hbm, 102, rfl⟩
abbrev main_call0_call0_v61 : Ref sig .tc := ⟨.hbm, 103, rfl⟩
abbrev main_call0_call0_c_15 : Ref sig .tc := ⟨.hbm, 104, rfl⟩
abbrev main_call0_call0_v62 : Ref sig .tc := ⟨.hbm, 105, rfl⟩
abbrev main_call0_call0_v63 : Ref sig .tc := ⟨.hbm, 106, rfl⟩
abbrev main_call0_call0_c_16 : Ref sig .tc := ⟨.hbm, 107, rfl⟩
abbrev main_call0_call0_v64 : Ref sig .tc := ⟨.hbm, 108, rfl⟩
abbrev main_call0_call0_v65 : Ref sig .tc := ⟨.hbm, 109, rfl⟩
abbrev main_call0_call0_v66 : Ref sig .tc := ⟨.hbm, 110, rfl⟩
abbrev main_call0_call0_v67 : Ref sig .tc := ⟨.hbm, 111, rfl⟩
abbrev main_call0_call0_v68 : Ref sig .tc := ⟨.hbm, 112, rfl⟩
abbrev main_call0_call0_v69 : Ref sig .tc := ⟨.hbm, 113, rfl⟩
abbrev main_call0_call0_v70 : Ref sig .tc := ⟨.hbm, 114, rfl⟩
abbrev main_call0_call0_v71 : Ref sig .tc := ⟨.hbm, 115, rfl⟩
abbrev main_call0_call0_c_17 : Ref sig .tc := ⟨.hbm, 116, rfl⟩
abbrev main_call0_call0_v72 : Ref sig .tc := ⟨.hbm, 117, rfl⟩
abbrev main_call0_call0_v73 : Ref sig .tc := ⟨.hbm, 118, rfl⟩
abbrev main_call0_call0_v74 : Ref sig .tc := ⟨.hbm, 119, rfl⟩
abbrev main_call0_call0_c_18 : Ref sig .tc := ⟨.hbm, 120, rfl⟩
abbrev main_call0_call0_v75 : Ref sig .tc := ⟨.hbm, 121, rfl⟩
abbrev main_call0_call0_v76 : Ref sig .tc := ⟨.hbm, 122, rfl⟩
abbrev main_call0_call0_c_19 : Ref sig .tc := ⟨.hbm, 123, rfl⟩
abbrev main_call0_call0_v77 : Ref sig .tc := ⟨.hbm, 124, rfl⟩
abbrev main_call0_call0_v78 : Ref sig .tc := ⟨.hbm, 125, rfl⟩
abbrev main_call0_call0_v79 : Ref sig .tc := ⟨.hbm, 126, rfl⟩
abbrev main_call0_call0_v80 : Ref sig .tc := ⟨.hbm, 127, rfl⟩
abbrev main_call0_call0_v81 : Ref sig .tc := ⟨.hbm, 128, rfl⟩
abbrev main_call0_call0_c_20 : Ref sig .tc := ⟨.hbm, 129, rfl⟩
abbrev main_call0_call0_v82 : Ref sig .tc := ⟨.hbm, 130, rfl⟩
abbrev main_call0_call0_v83 : Ref sig .tc := ⟨.hbm, 131, rfl⟩
abbrev main_call0_call0_c_21 : Ref sig .tc := ⟨.hbm, 132, rfl⟩
abbrev main_call0_call0_v84 : Ref sig .tc := ⟨.hbm, 133, rfl⟩
abbrev main_call0_call0_v85 : Ref sig .tc := ⟨.hbm, 134, rfl⟩
abbrev main_call0_call0_v86 : Ref sig .tc := ⟨.hbm, 135, rfl⟩
abbrev main_call0_call0_v87 : Ref sig .tc := ⟨.hbm, 136, rfl⟩
abbrev main_call0_call0_v88 : Ref sig .tc := ⟨.hbm, 137, rfl⟩
abbrev main_call0_call0_c_22 : Ref sig .tc := ⟨.hbm, 138, rfl⟩
abbrev main_call0_call0_v89 : Ref sig .tc := ⟨.hbm, 139, rfl⟩
abbrev main_call0_call0_v90 : Ref sig .tc := ⟨.hbm, 140, rfl⟩
abbrev main_call0_call0_c_23 : Ref sig .tc := ⟨.hbm, 141, rfl⟩
abbrev main_call0_call0_v91 : Ref sig .tc := ⟨.hbm, 142, rfl⟩
abbrev main_call0_call0_v92 : Ref sig .tc := ⟨.hbm, 143, rfl⟩
abbrev main_call0_call0_v93 : Ref sig .tc := ⟨.hbm, 144, rfl⟩
abbrev main_call0_call0_v94 : Ref sig .tc := ⟨.hbm, 145, rfl⟩
abbrev main_call0_call0_v95 : Ref sig .tc := ⟨.hbm, 146, rfl⟩
abbrev main_call0_call0_c_24 : Ref sig .tc := ⟨.hbm, 147, rfl⟩
abbrev main_call0_call0_v96 : Ref sig .tc := ⟨.hbm, 148, rfl⟩
abbrev main_call0_call0_v97 : Ref sig .tc := ⟨.hbm, 149, rfl⟩
abbrev main_call0_call0_c_25 : Ref sig .tc := ⟨.hbm, 150, rfl⟩
abbrev main_call0_call0_v98 : Ref sig .tc := ⟨.hbm, 151, rfl⟩
abbrev main_call0_call0_v99 : Ref sig .tc := ⟨.hbm, 152, rfl⟩
abbrev main_call0_call0_v100 : Ref sig .tc := ⟨.hbm, 153, rfl⟩
abbrev main_call0_call0_v101 : Ref sig .tc := ⟨.hbm, 154, rfl⟩
abbrev main_call0_call0_v102 : Ref sig .tc := ⟨.hbm, 155, rfl⟩
abbrev main_call0_call0_v103 : Ref sig .tc := ⟨.hbm, 156, rfl⟩
abbrev main_call0_call0_v104 : Ref sig .tc := ⟨.hbm, 157, rfl⟩
abbrev main_call0_call0_v105 : Ref sig .tc := ⟨.hbm, 158, rfl⟩
abbrev main_call0_call0_c_26 : Ref sig .tc := ⟨.hbm, 159, rfl⟩
abbrev main_call0_call0_v106 : Ref sig .tc := ⟨.hbm, 160, rfl⟩
abbrev main_call0_call0_v107 : Ref sig .tc := ⟨.hbm, 161, rfl⟩
abbrev main_call0_call0_v108 : Ref sig .tc := ⟨.hbm, 162, rfl⟩
abbrev main_call0_call0_c_27 : Ref sig .tc := ⟨.hbm, 163, rfl⟩
abbrev main_call0_call0_v109 : Ref sig .tc := ⟨.hbm, 164, rfl⟩
abbrev main_call0_call0_v110 : Ref sig .tc := ⟨.hbm, 165, rfl⟩
abbrev main_call0_call0_c_28 : Ref sig .tc := ⟨.hbm, 166, rfl⟩
abbrev main_call0_call0_v111 : Ref sig .tc := ⟨.hbm, 167, rfl⟩
abbrev main_call0_call0_v112 : Ref sig .tc := ⟨.hbm, 168, rfl⟩
abbrev main_call0_call0_v113 : Ref sig .tc := ⟨.hbm, 169, rfl⟩
abbrev main_call0_call0_v114 : Ref sig .tc := ⟨.hbm, 170, rfl⟩
abbrev main_call0_call0_v115 : Ref sig .tc := ⟨.hbm, 171, rfl⟩
abbrev main_call0_call0_c_29 : Ref sig .tc := ⟨.hbm, 172, rfl⟩
abbrev main_call0_call0_v116 : Ref sig .tc := ⟨.hbm, 173, rfl⟩
abbrev main_call0_call0_v117 : Ref sig .tc := ⟨.hbm, 174, rfl⟩
abbrev main_call0_call0_c_30 : Ref sig .tc := ⟨.hbm, 175, rfl⟩
abbrev main_call0_call0_v118 : Ref sig .tc := ⟨.hbm, 176, rfl⟩
abbrev main_call0_call0_v119 : Ref sig .tc := ⟨.hbm, 177, rfl⟩
abbrev main_call0_call0_v120 : Ref sig .tc := ⟨.hbm, 178, rfl⟩
abbrev main_call0_call0_v121 : Ref sig .tc := ⟨.hbm, 179, rfl⟩
abbrev main_call0_call0_v122 : Ref sig .tc := ⟨.hbm, 180, rfl⟩
abbrev main_call0_call0_c_31 : Ref sig .tc := ⟨.hbm, 181, rfl⟩
abbrev main_call0_call0_v123 : Ref sig .tc := ⟨.hbm, 182, rfl⟩
abbrev main_call0_call0_v124 : Ref sig .tc := ⟨.hbm, 183, rfl⟩
abbrev main_call0_call0_c_32 : Ref sig .tc := ⟨.hbm, 184, rfl⟩
abbrev main_call0_call0_v125 : Ref sig .tc := ⟨.hbm, 185, rfl⟩
abbrev main_call0_call0_v126 : Ref sig .tc := ⟨.hbm, 186, rfl⟩
abbrev main_call0_call0_v127 : Ref sig .tc := ⟨.hbm, 187, rfl⟩
abbrev main_call0_call0_v128 : Ref sig .tc := ⟨.hbm, 188, rfl⟩
abbrev main_call0_call0_v129 : Ref sig .tc := ⟨.hbm, 189, rfl⟩
abbrev main_call0_call0_c_33 : Ref sig .tc := ⟨.hbm, 190, rfl⟩
abbrev main_call0_call0_v130 : Ref sig .tc := ⟨.hbm, 191, rfl⟩
abbrev main_call0_call0_v131 : Ref sig .tc := ⟨.hbm, 192, rfl⟩
abbrev main_call0_call0_c_34 : Ref sig .tc := ⟨.hbm, 193, rfl⟩
abbrev main_call0_call0_v132 : Ref sig .tc := ⟨.hbm, 194, rfl⟩
abbrev main_call0_call0_v133 : Ref sig .tc := ⟨.hbm, 195, rfl⟩
abbrev main_call0_call0_v134 : Ref sig .tc := ⟨.hbm, 196, rfl⟩
abbrev main_call0_call0_v135 : Ref sig .tc := ⟨.hbm, 197, rfl⟩
abbrev main_call0_call0_v136 : Ref sig .tc := ⟨.hbm, 198, rfl⟩
abbrev main_call0_call0_v137 : Ref sig .tc := ⟨.hbm, 199, rfl⟩
abbrev main_call0_call0_v138 : Ref sig .tc := ⟨.hbm, 200, rfl⟩
abbrev main_call0_call0_v139 : Ref sig .tc := ⟨.hbm, 201, rfl⟩
abbrev main_call0_call0_c_35 : Ref sig .tc := ⟨.hbm, 202, rfl⟩
abbrev main_call0_call0_v140 : Ref sig .tc := ⟨.hbm, 203, rfl⟩
abbrev main_call0_call0_v141 : Ref sig .tc := ⟨.hbm, 204, rfl⟩
abbrev main_call0_call0_v142 : Ref sig .tc := ⟨.hbm, 205, rfl⟩
abbrev main_call0_call0_c_36 : Ref sig .tc := ⟨.hbm, 206, rfl⟩
abbrev main_call0_call0_v143 : Ref sig .tc := ⟨.hbm, 207, rfl⟩
abbrev main_call0_call0_v144 : Ref sig .tc := ⟨.hbm, 208, rfl⟩
abbrev main_call0_call0_c_37 : Ref sig .tc := ⟨.hbm, 209, rfl⟩
abbrev main_call0_call0_v145 : Ref sig .tc := ⟨.hbm, 210, rfl⟩
abbrev main_call0_call0_v146 : Ref sig .tc := ⟨.hbm, 211, rfl⟩
abbrev main_call0_call0_v147 : Ref sig .tc := ⟨.hbm, 212, rfl⟩
abbrev main_call0_call0_v148 : Ref sig .tc := ⟨.hbm, 213, rfl⟩
abbrev main_call0_call0_v149 : Ref sig .tc := ⟨.hbm, 214, rfl⟩
abbrev main_call0_call0_c_38 : Ref sig .tc := ⟨.hbm, 215, rfl⟩
abbrev main_call0_call0_v150 : Ref sig .tc := ⟨.hbm, 216, rfl⟩
abbrev main_call0_call0_v151 : Ref sig .tc := ⟨.hbm, 217, rfl⟩
abbrev main_call0_call0_c_39 : Ref sig .tc := ⟨.hbm, 218, rfl⟩
abbrev main_call0_call0_v152 : Ref sig .tc := ⟨.hbm, 219, rfl⟩
abbrev main_call0_call0_v153 : Ref sig .tc := ⟨.hbm, 220, rfl⟩
abbrev main_call0_call0_v154 : Ref sig .tc := ⟨.hbm, 221, rfl⟩
abbrev main_call0_call0_v155 : Ref sig .tc := ⟨.hbm, 222, rfl⟩
abbrev main_call0_call0_v156 : Ref sig .tc := ⟨.hbm, 223, rfl⟩
abbrev main_call0_call0_c_40 : Ref sig .tc := ⟨.hbm, 224, rfl⟩
abbrev main_call0_call0_v157 : Ref sig .tc := ⟨.hbm, 225, rfl⟩
abbrev main_call0_call0_v158 : Ref sig .tc := ⟨.hbm, 226, rfl⟩
abbrev main_call0_call0_c_41 : Ref sig .tc := ⟨.hbm, 227, rfl⟩
abbrev main_call0_call0_v159 : Ref sig .tc := ⟨.hbm, 228, rfl⟩
abbrev main_call0_call0_v160 : Ref sig .tc := ⟨.hbm, 229, rfl⟩
abbrev main_call0_call0_v161 : Ref sig .tc := ⟨.hbm, 230, rfl⟩
abbrev main_call0_call0_v162 : Ref sig .tc := ⟨.hbm, 231, rfl⟩
abbrev main_call0_call0_v163 : Ref sig .tc := ⟨.hbm, 232, rfl⟩
abbrev main_call0_call0_c_42 : Ref sig .tc := ⟨.hbm, 233, rfl⟩
abbrev main_call0_call0_v164 : Ref sig .tc := ⟨.hbm, 234, rfl⟩
abbrev main_call0_call0_v165 : Ref sig .tc := ⟨.hbm, 235, rfl⟩
abbrev main_call0_call0_c_43 : Ref sig .tc := ⟨.hbm, 236, rfl⟩
abbrev main_call0_call0_v166 : Ref sig .tc := ⟨.hbm, 237, rfl⟩
abbrev main_call0_call0_v167 : Ref sig .tc := ⟨.hbm, 238, rfl⟩
abbrev main_call0_call0_v168 : Ref sig .tc := ⟨.hbm, 239, rfl⟩
abbrev main_call0_call0_v169 : Ref sig .tc := ⟨.hbm, 240, rfl⟩
abbrev main_call0_call0_v170 : Ref sig .tc := ⟨.hbm, 241, rfl⟩
abbrev main_call0_v11_0 : Ref sig .tc := ⟨.hbm, 242, rfl⟩
abbrev main_call0_call0_v172 : Ref sig .tc := ⟨.hbm, 243, rfl⟩
abbrev main_call0_call0_v173 : Ref sig .tc := ⟨.hbm, 244, rfl⟩
abbrev main_call0_call0_c_44 : Ref sig .tc := ⟨.hbm, 245, rfl⟩
abbrev main_call0_call0_v174 : Ref sig .tc := ⟨.hbm, 246, rfl⟩
abbrev main_call0_v11_1 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_v12 : Ref sig .tc := ⟨.hbm, 253, rfl⟩
abbrev main_v13 : Ref sig .tc := ⟨.hbm, 254, rfl⟩
abbrev main_v14 : Ref sig .tc := ⟨.hbm, 255, rfl⟩
abbrev main_v15 : Ref sig .tc := ⟨.hbm, 256, rfl⟩
abbrev main_c_3 : Ref sig .tc := ⟨.hbm, 257, rfl⟩
abbrev main_v16 : Ref sig .tc := ⟨.hbm, 258, rfl⟩
abbrev main_v17 : Ref sig .tc := ⟨.hbm, 259, rfl⟩
abbrev main_c_4 : Ref sig .tc := ⟨.hbm, 260, rfl⟩
abbrev main_v18 : Ref sig .tc := ⟨.hbm, 261, rfl⟩
abbrev main_v19 : Ref sig .tc := ⟨.hbm, 262, rfl⟩
abbrev main_c_5 : Ref sig .tc := ⟨.hbm, 263, rfl⟩
abbrev main_v20 : Ref sig .tc := ⟨.hbm, 264, rfl⟩
abbrev main_v21 : Ref sig .tc := ⟨.hbm, 265, rfl⟩
abbrev main_c_6 : Ref sig .tc := ⟨.hbm, 266, rfl⟩
abbrev main_v22 : Ref sig .tc := ⟨.hbm, 267, rfl⟩
abbrev main_v23 : Ref sig .tc := ⟨.hbm, 268, rfl⟩
abbrev main_v24 : Ref sig .tc := ⟨.hbm, 269, rfl⟩
abbrev main_v25 : Ref sig .tc := ⟨.hbm, 270, rfl⟩
abbrev main_v26 : Ref sig .tc := ⟨.hbm, 271, rfl⟩
abbrev main_c_7 : Ref sig .tc := ⟨.hbm, 272, rfl⟩
abbrev main_v27 : Ref sig .tc := ⟨.hbm, 273, rfl⟩
abbrev main_v28 : Ref sig .tc := ⟨.hbm, 274, rfl⟩
abbrev main_v29 : Ref sig .tc := ⟨.hbm, 275, rfl⟩
abbrev main_v30 : Ref sig .tc := ⟨.hbm, 276, rfl⟩
abbrev main_call1_v0 : Ref sig .tc := ⟨.hbm, 277, rfl⟩
abbrev main_call1_c : Ref sig .tc := ⟨.hbm, 278, rfl⟩
abbrev main_call1_v1 : Ref sig .tc := ⟨.hbm, 279, rfl⟩
abbrev main_call1_v2 : Ref sig .tc := ⟨.hbm, 280, rfl⟩
abbrev main_call1_v3 : Ref sig .tc := ⟨.hbm, 281, rfl⟩
abbrev main_call1_v4 : Ref sig .tc := ⟨.hbm, 282, rfl⟩
abbrev main_call1_v5 : Ref sig .tc := ⟨.hbm, 283, rfl⟩
abbrev main_call1_v6 : Ref sig .tc := ⟨.hbm, 284, rfl⟩
abbrev main_call1_c_0 : Ref sig .tc := ⟨.hbm, 285, rfl⟩
abbrev main_call1_v7 : Ref sig .tc := ⟨.hbm, 286, rfl⟩
abbrev main_call1_v8 : Ref sig .tc := ⟨.hbm, 287, rfl⟩
abbrev main_call1_c_1 : Ref sig .tc := ⟨.hbm, 288, rfl⟩
abbrev main_call1_v9 : Ref sig .tc := ⟨.hbm, 289, rfl⟩
abbrev main_call1_v10 : Ref sig .tc := ⟨.hbm, 290, rfl⟩
abbrev main_call1_v11 : Ref sig .tc := ⟨.hbm, 291, rfl⟩
abbrev main_call1_v12 : Ref sig .tc := ⟨.hbm, 292, rfl⟩
abbrev main_call1_v13 : Ref sig .tc := ⟨.hbm, 293, rfl⟩
abbrev main_call1_c_2 : Ref sig .tc := ⟨.hbm, 294, rfl⟩
abbrev main_call1_v14 : Ref sig .tc := ⟨.hbm, 295, rfl⟩
abbrev main_call1_v15 : Ref sig .tc := ⟨.hbm, 296, rfl⟩
abbrev main_call1_c_3 : Ref sig .tc := ⟨.hbm, 297, rfl⟩
abbrev main_call1_v16 : Ref sig .tc := ⟨.hbm, 298, rfl⟩
abbrev main_call1_v17 : Ref sig .tc := ⟨.hbm, 299, rfl⟩
abbrev main_call1_v18 : Ref sig .tc := ⟨.hbm, 300, rfl⟩
abbrev main_call1_v19 : Ref sig .tc := ⟨.hbm, 301, rfl⟩
abbrev main_call1_v20 : Ref sig .tc := ⟨.hbm, 302, rfl⟩
abbrev main_call1_c_4 : Ref sig .tc := ⟨.hbm, 303, rfl⟩
abbrev main_call1_v21 : Ref sig .tc := ⟨.hbm, 304, rfl⟩
abbrev main_call1_v22 : Ref sig .tc := ⟨.hbm, 305, rfl⟩
abbrev main_call1_c_5 : Ref sig .tc := ⟨.hbm, 306, rfl⟩
abbrev main_call1_v23 : Ref sig .tc := ⟨.hbm, 307, rfl⟩
abbrev main_call1_v24 : Ref sig .tc := ⟨.hbm, 308, rfl⟩
abbrev main_call1_v25 : Ref sig .tc := ⟨.hbm, 309, rfl⟩
abbrev main_call1_v26 : Ref sig .tc := ⟨.hbm, 310, rfl⟩
abbrev main_call1_v27 : Ref sig .tc := ⟨.hbm, 311, rfl⟩
abbrev main_call1_c_6 : Ref sig .tc := ⟨.hbm, 312, rfl⟩
abbrev main_call1_v28 : Ref sig .tc := ⟨.hbm, 313, rfl⟩
abbrev main_call1_v29 : Ref sig .tc := ⟨.hbm, 314, rfl⟩
abbrev main_call1_c_7 : Ref sig .tc := ⟨.hbm, 315, rfl⟩
abbrev main_call1_v30 : Ref sig .tc := ⟨.hbm, 316, rfl⟩
abbrev main_call1_v31 : Ref sig .tc := ⟨.hbm, 317, rfl⟩
abbrev main_call1_v32 : Ref sig .tc := ⟨.hbm, 318, rfl⟩
abbrev main_call1_v33 : Ref sig .tc := ⟨.hbm, 319, rfl⟩
abbrev main_call1_v34 : Ref sig .tc := ⟨.hbm, 320, rfl⟩
abbrev main_call1_v35 : Ref sig .tc := ⟨.hbm, 321, rfl⟩
abbrev main_call1_v36 : Ref sig .tc := ⟨.hbm, 322, rfl⟩
abbrev main_call1_v37 : Ref sig .tc := ⟨.hbm, 323, rfl⟩
abbrev main_call1_c_8 : Ref sig .tc := ⟨.hbm, 324, rfl⟩
abbrev main_call1_v38 : Ref sig .tc := ⟨.hbm, 325, rfl⟩
abbrev main_call1_v39 : Ref sig .tc := ⟨.hbm, 326, rfl⟩
abbrev main_call1_v40 : Ref sig .tc := ⟨.hbm, 327, rfl⟩
abbrev main_call1_c_9 : Ref sig .tc := ⟨.hbm, 328, rfl⟩
abbrev main_call1_v41 : Ref sig .tc := ⟨.hbm, 329, rfl⟩
abbrev main_call1_v42 : Ref sig .tc := ⟨.hbm, 330, rfl⟩
abbrev main_call1_c_10 : Ref sig .tc := ⟨.hbm, 331, rfl⟩
abbrev main_call1_v43 : Ref sig .tc := ⟨.hbm, 332, rfl⟩
abbrev main_call1_v44 : Ref sig .tc := ⟨.hbm, 333, rfl⟩
abbrev main_call1_v45 : Ref sig .tc := ⟨.hbm, 334, rfl⟩
abbrev main_call1_v46 : Ref sig .tc := ⟨.hbm, 335, rfl⟩
abbrev main_call1_v47 : Ref sig .tc := ⟨.hbm, 336, rfl⟩
abbrev main_call1_c_11 : Ref sig .tc := ⟨.hbm, 337, rfl⟩
abbrev main_call1_v48 : Ref sig .tc := ⟨.hbm, 338, rfl⟩
abbrev main_call1_v49 : Ref sig .tc := ⟨.hbm, 339, rfl⟩
abbrev main_call1_c_12 : Ref sig .tc := ⟨.hbm, 340, rfl⟩
abbrev main_call1_v50 : Ref sig .tc := ⟨.hbm, 341, rfl⟩
abbrev main_call1_v51 : Ref sig .tc := ⟨.hbm, 342, rfl⟩
abbrev main_call1_v52 : Ref sig .tc := ⟨.hbm, 343, rfl⟩
abbrev main_call1_v53 : Ref sig .tc := ⟨.hbm, 344, rfl⟩
abbrev main_call1_v54 : Ref sig .tc := ⟨.hbm, 345, rfl⟩
abbrev main_call1_c_13 : Ref sig .tc := ⟨.hbm, 346, rfl⟩
abbrev main_call1_v55 : Ref sig .tc := ⟨.hbm, 347, rfl⟩
abbrev main_call1_v56 : Ref sig .tc := ⟨.hbm, 348, rfl⟩
abbrev main_call1_c_14 : Ref sig .tc := ⟨.hbm, 349, rfl⟩
abbrev main_call1_v57 : Ref sig .tc := ⟨.hbm, 350, rfl⟩
abbrev main_call1_v58 : Ref sig .tc := ⟨.hbm, 351, rfl⟩
abbrev main_call1_v59 : Ref sig .tc := ⟨.hbm, 352, rfl⟩
abbrev main_call1_v60 : Ref sig .tc := ⟨.hbm, 353, rfl⟩
abbrev main_call1_v61 : Ref sig .tc := ⟨.hbm, 354, rfl⟩
abbrev main_call1_c_15 : Ref sig .tc := ⟨.hbm, 355, rfl⟩
abbrev main_call1_v62 : Ref sig .tc := ⟨.hbm, 356, rfl⟩
abbrev main_call1_v63 : Ref sig .tc := ⟨.hbm, 357, rfl⟩
abbrev main_call1_c_16 : Ref sig .tc := ⟨.hbm, 358, rfl⟩
abbrev main_call1_v64 : Ref sig .tc := ⟨.hbm, 359, rfl⟩
abbrev main_call1_v65 : Ref sig .tc := ⟨.hbm, 360, rfl⟩
abbrev main_call1_v66 : Ref sig .tc := ⟨.hbm, 361, rfl⟩
abbrev main_call1_v67 : Ref sig .tc := ⟨.hbm, 362, rfl⟩
abbrev main_call1_v68 : Ref sig .tc := ⟨.hbm, 363, rfl⟩
abbrev main_call1_v69 : Ref sig .tc := ⟨.hbm, 364, rfl⟩
abbrev main_call1_v70 : Ref sig .tc := ⟨.hbm, 365, rfl⟩
abbrev main_call1_v71 : Ref sig .tc := ⟨.hbm, 366, rfl⟩
abbrev main_call1_c_17 : Ref sig .tc := ⟨.hbm, 367, rfl⟩
abbrev main_call1_v72 : Ref sig .tc := ⟨.hbm, 368, rfl⟩
abbrev main_call1_v73 : Ref sig .tc := ⟨.hbm, 369, rfl⟩
abbrev main_call1_v74 : Ref sig .tc := ⟨.hbm, 370, rfl⟩
abbrev main_call1_c_18 : Ref sig .tc := ⟨.hbm, 371, rfl⟩
abbrev main_call1_v75 : Ref sig .tc := ⟨.hbm, 372, rfl⟩
abbrev main_call1_v76 : Ref sig .tc := ⟨.hbm, 373, rfl⟩
abbrev main_call1_c_19 : Ref sig .tc := ⟨.hbm, 374, rfl⟩
abbrev main_call1_v77 : Ref sig .tc := ⟨.hbm, 375, rfl⟩
abbrev main_call1_v78 : Ref sig .tc := ⟨.hbm, 376, rfl⟩
abbrev main_call1_v79 : Ref sig .tc := ⟨.hbm, 377, rfl⟩
abbrev main_call1_v80 : Ref sig .tc := ⟨.hbm, 378, rfl⟩
abbrev main_call1_v81 : Ref sig .tc := ⟨.hbm, 379, rfl⟩
abbrev main_call1_c_20 : Ref sig .tc := ⟨.hbm, 380, rfl⟩
abbrev main_call1_v82 : Ref sig .tc := ⟨.hbm, 381, rfl⟩
abbrev main_call1_v83 : Ref sig .tc := ⟨.hbm, 382, rfl⟩
abbrev main_call1_c_21 : Ref sig .tc := ⟨.hbm, 383, rfl⟩
abbrev main_call1_v84 : Ref sig .tc := ⟨.hbm, 384, rfl⟩
abbrev main_call1_v85 : Ref sig .tc := ⟨.hbm, 385, rfl⟩
abbrev main_call1_v86 : Ref sig .tc := ⟨.hbm, 386, rfl⟩
abbrev main_call1_v87 : Ref sig .tc := ⟨.hbm, 387, rfl⟩
abbrev main_call1_v88 : Ref sig .tc := ⟨.hbm, 388, rfl⟩
abbrev main_call1_c_22 : Ref sig .tc := ⟨.hbm, 389, rfl⟩
abbrev main_call1_v89 : Ref sig .tc := ⟨.hbm, 390, rfl⟩
abbrev main_call1_v90 : Ref sig .tc := ⟨.hbm, 391, rfl⟩
abbrev main_call1_c_23 : Ref sig .tc := ⟨.hbm, 392, rfl⟩
abbrev main_call1_v91 : Ref sig .tc := ⟨.hbm, 393, rfl⟩
abbrev main_call1_v92 : Ref sig .tc := ⟨.hbm, 394, rfl⟩
abbrev main_call1_v93 : Ref sig .tc := ⟨.hbm, 395, rfl⟩
abbrev main_call1_v94 : Ref sig .tc := ⟨.hbm, 396, rfl⟩
abbrev main_call1_v95 : Ref sig .tc := ⟨.hbm, 397, rfl⟩
abbrev main_call1_c_24 : Ref sig .tc := ⟨.hbm, 398, rfl⟩
abbrev main_call1_v96 : Ref sig .tc := ⟨.hbm, 399, rfl⟩
abbrev main_call1_v97 : Ref sig .tc := ⟨.hbm, 400, rfl⟩
abbrev main_call1_c_25 : Ref sig .tc := ⟨.hbm, 401, rfl⟩
abbrev main_call1_v98 : Ref sig .tc := ⟨.hbm, 402, rfl⟩
abbrev main_call1_v99 : Ref sig .tc := ⟨.hbm, 403, rfl⟩
abbrev main_call1_v100 : Ref sig .tc := ⟨.hbm, 404, rfl⟩
abbrev main_call1_v101 : Ref sig .tc := ⟨.hbm, 405, rfl⟩
abbrev main_call1_v102 : Ref sig .tc := ⟨.hbm, 406, rfl⟩
abbrev main_call1_v103 : Ref sig .tc := ⟨.hbm, 407, rfl⟩
abbrev main_call1_v104 : Ref sig .tc := ⟨.hbm, 408, rfl⟩
abbrev main_call1_v105 : Ref sig .tc := ⟨.hbm, 409, rfl⟩
abbrev main_call1_c_26 : Ref sig .tc := ⟨.hbm, 410, rfl⟩
abbrev main_call1_v106 : Ref sig .tc := ⟨.hbm, 411, rfl⟩
abbrev main_call1_v107 : Ref sig .tc := ⟨.hbm, 412, rfl⟩
abbrev main_call1_v108 : Ref sig .tc := ⟨.hbm, 413, rfl⟩
abbrev main_call1_c_27 : Ref sig .tc := ⟨.hbm, 414, rfl⟩
abbrev main_call1_v109 : Ref sig .tc := ⟨.hbm, 415, rfl⟩
abbrev main_call1_v110 : Ref sig .tc := ⟨.hbm, 416, rfl⟩
abbrev main_call1_c_28 : Ref sig .tc := ⟨.hbm, 417, rfl⟩
abbrev main_call1_v111 : Ref sig .tc := ⟨.hbm, 418, rfl⟩
abbrev main_call1_v112 : Ref sig .tc := ⟨.hbm, 419, rfl⟩
abbrev main_call1_v113 : Ref sig .tc := ⟨.hbm, 420, rfl⟩
abbrev main_call1_v114 : Ref sig .tc := ⟨.hbm, 421, rfl⟩
abbrev main_call1_v115 : Ref sig .tc := ⟨.hbm, 422, rfl⟩
abbrev main_call1_c_29 : Ref sig .tc := ⟨.hbm, 423, rfl⟩
abbrev main_call1_v116 : Ref sig .tc := ⟨.hbm, 424, rfl⟩
abbrev main_call1_v117 : Ref sig .tc := ⟨.hbm, 425, rfl⟩
abbrev main_call1_c_30 : Ref sig .tc := ⟨.hbm, 426, rfl⟩
abbrev main_call1_v118 : Ref sig .tc := ⟨.hbm, 427, rfl⟩
abbrev main_call1_v119 : Ref sig .tc := ⟨.hbm, 428, rfl⟩
abbrev main_call1_v120 : Ref sig .tc := ⟨.hbm, 429, rfl⟩
abbrev main_call1_v121 : Ref sig .tc := ⟨.hbm, 430, rfl⟩
abbrev main_call1_v122 : Ref sig .tc := ⟨.hbm, 431, rfl⟩
abbrev main_call1_c_31 : Ref sig .tc := ⟨.hbm, 432, rfl⟩
abbrev main_call1_v123 : Ref sig .tc := ⟨.hbm, 433, rfl⟩
abbrev main_call1_v124 : Ref sig .tc := ⟨.hbm, 434, rfl⟩
abbrev main_call1_c_32 : Ref sig .tc := ⟨.hbm, 435, rfl⟩
abbrev main_call1_v125 : Ref sig .tc := ⟨.hbm, 436, rfl⟩
abbrev main_call1_v126 : Ref sig .tc := ⟨.hbm, 437, rfl⟩
abbrev main_call1_v127 : Ref sig .tc := ⟨.hbm, 438, rfl⟩
abbrev main_call1_v128 : Ref sig .tc := ⟨.hbm, 439, rfl⟩
abbrev main_call1_v129 : Ref sig .tc := ⟨.hbm, 440, rfl⟩
abbrev main_call1_c_33 : Ref sig .tc := ⟨.hbm, 441, rfl⟩
abbrev main_call1_v130 : Ref sig .tc := ⟨.hbm, 442, rfl⟩
abbrev main_call1_v131 : Ref sig .tc := ⟨.hbm, 443, rfl⟩
abbrev main_call1_c_34 : Ref sig .tc := ⟨.hbm, 444, rfl⟩
abbrev main_call1_v132 : Ref sig .tc := ⟨.hbm, 445, rfl⟩
abbrev main_call1_v133 : Ref sig .tc := ⟨.hbm, 446, rfl⟩
abbrev main_call1_v134 : Ref sig .tc := ⟨.hbm, 447, rfl⟩
abbrev main_call1_v135 : Ref sig .tc := ⟨.hbm, 448, rfl⟩
abbrev main_call1_v136 : Ref sig .tc := ⟨.hbm, 449, rfl⟩
abbrev main_call1_v137 : Ref sig .tc := ⟨.hbm, 450, rfl⟩
abbrev main_call1_v138 : Ref sig .tc := ⟨.hbm, 451, rfl⟩
abbrev main_call1_v139 : Ref sig .tc := ⟨.hbm, 452, rfl⟩
abbrev main_call1_c_35 : Ref sig .tc := ⟨.hbm, 453, rfl⟩
abbrev main_call1_v140 : Ref sig .tc := ⟨.hbm, 454, rfl⟩
abbrev main_call1_v141 : Ref sig .tc := ⟨.hbm, 455, rfl⟩
abbrev main_call1_v142 : Ref sig .tc := ⟨.hbm, 456, rfl⟩
abbrev main_call1_c_36 : Ref sig .tc := ⟨.hbm, 457, rfl⟩
abbrev main_call1_v143 : Ref sig .tc := ⟨.hbm, 458, rfl⟩
abbrev main_call1_v144 : Ref sig .tc := ⟨.hbm, 459, rfl⟩
abbrev main_call1_c_37 : Ref sig .tc := ⟨.hbm, 460, rfl⟩
abbrev main_call1_v145 : Ref sig .tc := ⟨.hbm, 461, rfl⟩
abbrev main_call1_v146 : Ref sig .tc := ⟨.hbm, 462, rfl⟩
abbrev main_call1_v147 : Ref sig .tc := ⟨.hbm, 463, rfl⟩
abbrev main_call1_v148 : Ref sig .tc := ⟨.hbm, 464, rfl⟩
abbrev main_call1_v149 : Ref sig .tc := ⟨.hbm, 465, rfl⟩
abbrev main_call1_c_38 : Ref sig .tc := ⟨.hbm, 466, rfl⟩
abbrev main_call1_v150 : Ref sig .tc := ⟨.hbm, 467, rfl⟩
abbrev main_call1_v151 : Ref sig .tc := ⟨.hbm, 468, rfl⟩
abbrev main_call1_c_39 : Ref sig .tc := ⟨.hbm, 469, rfl⟩
abbrev main_call1_v152 : Ref sig .tc := ⟨.hbm, 470, rfl⟩
abbrev main_call1_v153 : Ref sig .tc := ⟨.hbm, 471, rfl⟩
abbrev main_call1_v154 : Ref sig .tc := ⟨.hbm, 472, rfl⟩
abbrev main_call1_v155 : Ref sig .tc := ⟨.hbm, 473, rfl⟩
abbrev main_call1_v156 : Ref sig .tc := ⟨.hbm, 474, rfl⟩
abbrev main_call1_c_40 : Ref sig .tc := ⟨.hbm, 475, rfl⟩
abbrev main_call1_v157 : Ref sig .tc := ⟨.hbm, 476, rfl⟩
abbrev main_call1_v158 : Ref sig .tc := ⟨.hbm, 477, rfl⟩
abbrev main_call1_c_41 : Ref sig .tc := ⟨.hbm, 478, rfl⟩
abbrev main_call1_v159 : Ref sig .tc := ⟨.hbm, 479, rfl⟩
abbrev main_call1_v160 : Ref sig .tc := ⟨.hbm, 480, rfl⟩
abbrev main_call1_v161 : Ref sig .tc := ⟨.hbm, 481, rfl⟩
abbrev main_call1_v162 : Ref sig .tc := ⟨.hbm, 482, rfl⟩
abbrev main_call1_v163 : Ref sig .tc := ⟨.hbm, 483, rfl⟩
abbrev main_call1_c_42 : Ref sig .tc := ⟨.hbm, 484, rfl⟩
abbrev main_call1_v164 : Ref sig .tc := ⟨.hbm, 485, rfl⟩
abbrev main_call1_v165 : Ref sig .tc := ⟨.hbm, 486, rfl⟩
abbrev main_call1_c_43 : Ref sig .tc := ⟨.hbm, 487, rfl⟩
abbrev main_call1_v166 : Ref sig .tc := ⟨.hbm, 488, rfl⟩
abbrev main_call1_v167 : Ref sig .tc := ⟨.hbm, 489, rfl⟩
abbrev main_call1_v168 : Ref sig .tc := ⟨.hbm, 490, rfl⟩
abbrev main_call1_v169 : Ref sig .tc := ⟨.hbm, 491, rfl⟩
abbrev main_call1_v170 : Ref sig .tc := ⟨.hbm, 492, rfl⟩
abbrev main_v31_0 : Ref sig .tc := ⟨.hbm, 493, rfl⟩
abbrev main_call1_v172 : Ref sig .tc := ⟨.hbm, 494, rfl⟩
abbrev main_call1_v173 : Ref sig .tc := ⟨.hbm, 495, rfl⟩
abbrev main_call1_c_44 : Ref sig .tc := ⟨.hbm, 496, rfl⟩
abbrev main_call1_v174 : Ref sig .tc := ⟨.hbm, 497, rfl⟩
abbrev main_v31_1 : Ref sig .tc := ⟨.hbm, 498, rfl⟩
abbrev main_v32 : Ref sig .tc := ⟨.hbm, 499, rfl⟩
abbrev main_c_8 : Ref sig .tc := ⟨.hbm, 500, rfl⟩
abbrev main_v33 : Ref sig .tc := ⟨.hbm, 501, rfl⟩
abbrev main_v34 : Ref sig .tc := ⟨.hbm, 502, rfl⟩
abbrev main_v35 : Ref sig .tc := ⟨.hbm, 503, rfl⟩
abbrev main_v36 : Ref sig .tc := ⟨.hbm, 504, rfl⟩
abbrev main_cst : Ref sig .tc := ⟨.hbm, 505, rfl⟩
abbrev main_v37 : Ref sig .tc := ⟨.hbm, 506, rfl⟩
abbrev main_v38 : Ref sig .tc := ⟨.hbm, 507, rfl⟩
abbrev main_v39 : Ref sig .tc := ⟨.hbm, 508, rfl⟩
abbrev main_v40 : Ref sig .tc := ⟨.hbm, 509, rfl⟩
abbrev main_v41 : Ref sig .tc := ⟨.hbm, 510, rfl⟩
abbrev main_c_9 : Ref sig .tc := ⟨.hbm, 511, rfl⟩
abbrev main_call2_v0 : Ref sig .tc := ⟨.hbm, 512, rfl⟩
abbrev main_v42 : Ref sig .tc := ⟨.hbm, 513, rfl⟩
abbrev main_cst_10 : Ref sig .tc := ⟨.hbm, 514, rfl⟩
abbrev main_v43 : Ref sig .tc := ⟨.hbm, 515, rfl⟩
abbrev main_v44 : Ref sig .tc := ⟨.hbm, 516, rfl⟩
abbrev main_cst_11 : Ref sig .tc := ⟨.hbm, 517, rfl⟩
abbrev main_v45 : Ref sig .tc := ⟨.hbm, 518, rfl⟩
abbrev main_v46 : Ref sig .tc := ⟨.hbm, 519, rfl⟩
abbrev main_cst_12 : Ref sig .tc := ⟨.hbm, 520, rfl⟩
abbrev main_v47 : Ref sig .tc := ⟨.hbm, 521, rfl⟩
abbrev main_v48 : Ref sig .tc := ⟨.hbm, 522, rfl⟩
abbrev main_cst_13 : Ref sig .tc := ⟨.hbm, 523, rfl⟩
abbrev main_v49 : Ref sig .tc := ⟨.hbm, 524, rfl⟩
abbrev main_v50 : Ref sig .tc := ⟨.hbm, 525, rfl⟩
abbrev main_v51 : Ref sig .tc := ⟨.hbm, 526, rfl⟩

abbrev nD : Nat := 1
abbrev τ : Topo := Topo.v7x

variable {F : FTy → Type} [FloatOps F]
-- ==== Proof.KernelIdealMaskBody.lean ====
/- The mask kernel's body at any grid point: what it stores, found by running it on whole staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Drop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the mask kernel's body stores into its two outputs (the packed mask, the running count), as a list of stores each,
    with the proof that the body run on whole buffers holding the four inputs, anything in the mask's buffer and the
    count so far `xo` in the count's, leaves the inputs as they are and the outputs with those stores made. -/
def maskRun (c : Dev nD) (i : grid0.Coords) (arg1 : Memref sig .tc .vmem S224x224 .i32) (harg1 : arg1.IsWhole) (arg2 : Memref sig .tc .vmem S224x224 .i32) (harg2 : arg2.IsWhole)
    (arg3 : Memref sig .tc .vmem S224x224 .f32) (harg3 : arg3.IsWhole) (arg4 : Memref sig .tc .vmem S224x224 .f32) (harg4 : arg4.IsWhole)
    (arg5 : Memref sig .tc .vmem S1x224x224 .i32) (harg5 : arg5.IsWhole) (arg6 : Memref sig .tc .smem S1x1 .i32) (harg6 : arg6.IsWhole)
    (x0 : Vec F S224x224 .i32) (x1 : Vec F S224x224 .i32) (x2 : Vec F S224x224 .f32) (x3 : Vec F S224x224 .f32) (xo : Vec F S1x1 .i32) :
    Σ' (L4 : List (View.Piece (Elt F) S1x224x224 .i32)), { L5 : List (View.Piece (Elt F) S1x1 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0__mask_kernel i arg1 harg1 arg2 harg2 arg3 harg3 arg4 harg4 arg5 harg5 arg6 harg6) K } := by
  refine ⟨?_, ?_, fun E K => ?run⟩
  case run =>
    simp only [cc0__mask_kernel_eq_skeleton]; unfold cc0__mask_kernel_skel
    simp only [k0_part103_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part104_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg1.eq_unread hf0; obtain rfl := harg2.eq_unread hf1; obtain rfl := harg3.eq_unread hf2; obtain rfl := harg4.eq_unread hf3; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

end Cert.KernelIdeal.Drop

end
-- ==== Proof.KernelIdealApplyBody.lean ====
/- The scaling kernel's body at any grid point: what it stores, found by running it on whole staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Drop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the scaling kernel's body stores into its output block, as a list of stores, with the proof that the body run on
    whole buffers holding the count, the block of `x` and the two packed planes, and anything in the output's, leaves the
    inputs as they are and the output with those stores made. -/
def applyRun (c : Dev nD) (i : grid1.Coords) (arg1 : Memref sig .tc .smem S1x1 .i32) (harg1 : arg1.IsWhole) (arg2 : Memref sig .tc .vmem S48x224x224 .f32) (harg2 : arg2.IsWhole)
    (arg3 : Memref sig .tc .vmem S2x224x224 .i32) (harg3 : arg3.IsWhole) (arg4 : Memref sig .tc .vmem S48x224x224 .f32) (harg4 : arg4.IsWhole)
    (x0 : Vec F S1x1 .i32) (x1 : Vec F S48x224x224 .f32) (x2 : Vec F S2x224x224 .i32) :
    { L3 : List (View.Piece (Elt F) S48x224x224 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__apply_kernel i arg1 harg1 arg2 harg2 arg3 harg3 arg4 harg4) K } := by
  refine ⟨?_, fun E K => ?run⟩
  case run =>
    simp only [cc1__apply_kernel_eq_skeleton]; unfold cc1__apply_kernel_skel
    simp only [k1_part19_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Drop

end
-- ==== Proof.KernelIdealRun.lean ====
/- The run of the whole program: what each of the two regions leaves in its buffers, point by point, and the launch as
   host stretches and regions, ending with every buffer's contents after the return. -/
module

public import proofs.«01_k».proof.Proof.KernelIdealMaskBody
public import proofs.«01_k».proof.Proof.KernelIdealApplyBody
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Drop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The mask kernel's two outputs as values -/

/-- The buffer the packed mask is read back through: a whole block. -/
abbrev VO0_4 : View sig .tc .vmem S1x224x224 .i32 := (Memref.whole cc0_stg4_0 : Memref sig .tc .vmem S1x224x224 .i32).view
/-- The buffer the count is read back through: one word. -/
abbrev VO0_5 : View sig .tc .smem S1x1 .i32 := (Memref.whole cc0_stg5_0 : Memref sig .tc .smem S1x1 .i32).view

section MaskValues
variable (c : Dev nD) (i : grid0.Coords) (arg1 : Memref sig .tc .vmem S224x224 .i32) (harg1 : arg1.IsWhole) (arg2 : Memref sig .tc .vmem S224x224 .i32) (harg2 : arg2.IsWhole)
    (arg3 : Memref sig .tc .vmem S224x224 .f32) (harg3 : arg3.IsWhole) (arg4 : Memref sig .tc .vmem S224x224 .f32) (harg4 : arg4.IsWhole)
    (arg5 : Memref sig .tc .vmem S1x224x224 .i32) (harg5 : arg5.IsWhole) (arg6 : Memref sig .tc .smem S1x1 .i32) (harg6 : arg6.IsWhole)
    (x0 : Vec F S224x224 .i32) (x1 : Vec F S224x224 .i32) (x2 : Vec F S224x224 .f32) (x3 : Vec F S224x224 .f32) (xo xo' : Vec F S1x1 .i32)

/-- The packed mask's stores do not look at the count so far. -/
theorem mask_packed_pieces : (maskRun c i arg1 harg1 arg2 harg2 arg3 harg3 arg4 harg4 arg5 harg5 arg6 harg6 x0 x1 x2 x3 xo).1 = (maskRun c i arg1 harg1 arg2 harg2 arg3 harg3 arg4 harg4 arg5 harg5 arg6 harg6 x0 x1 x2 x3 xo').1 := rfl

/-- At the first point the count's store does not look at the count so far: it starts from zero there. -/
theorem mask_count_pieces (h : (i 0).val = 0) :
    (maskRun c i arg1 harg1 arg2 harg2 arg3 harg3 arg4 harg4 arg5 harg5 arg6 harg6 x0 x1 x2 x3 xo).2.1 = (maskRun c i arg1 harg1 arg2 harg2 arg3 harg3 arg4 harg4 arg5 harg5 arg6 harg6 x0 x1 x2 x3 xo').2.1 := by
  dsimp only [maskRun]
  rw [h]; rfl

/-- The packed mask's stores fill its block. -/
theorem mask_packed_cover (y : S1x224x224.Idx) : ∃ pc ∈ (maskRun c i arg1 harg1 arg2 harg2 arg3 harg3 arg4 harg4 arg5 harg5 arg6 harg6 x0 x1 x2 x3 xo).1, y ∈ pc.1.set :=
  View.cover_of_tiledL (maskRun c i arg1 harg1 arg2 harg2 arg3 harg3 arg4 harg4 arg5 harg5 arg6 harg6 x0 x1 x2 x3 xo).1 S1x224x224.size (by sl_kernel_rfl) y

/-- The count's store fills its word. -/
theorem mask_count_cover (y : S1x1.Idx) : ∃ pc ∈ (maskRun c i arg1 harg1 arg2 harg2 arg3 harg3 arg4 harg4 arg5 harg5 arg6 harg6 x0 x1 x2 x3 xo).2.1, y ∈ pc.1.set :=
  View.cover_of_tiledL (maskRun c i arg1 harg1 arg2 harg2 arg3 harg3 arg4 harg4 arg5 harg5 arg6 harg6 x0 x1 x2 x3 xo).2.1 S1x1.size (by sl_kernel_rfl) y

/-- The packed mask the body leaves. -/
def maskPacked : Vec F S1x224x224 .i32 :=
  VO0_4.read (Elt F) (VO0_4.writes (Elt F) VO0_4.junk (maskRun c i arg1 harg1 arg2 harg2 arg3 harg3 arg4 harg4 arg5 harg5 arg6 harg6 x0 x1 x2 x3 xo).1)

/-- The count the body leaves, from the count so far. -/
def maskCount : Vec F S1x1 .i32 :=
  VO0_5.read (Elt F) (VO0_5.writes (Elt F) VO0_5.junk (maskRun c i arg1 harg1 arg2 harg2 arg3 harg3 arg4 harg4 arg5 harg5 arg6 harg6 x0 x1 x2 x3 xo).2.1)

theorem maskPacked_any : maskPacked c i arg1 harg1 arg2 harg2 arg3 harg3 arg4 harg4 arg5 harg5 arg6 harg6 x0 x1 x2 x3 xo = maskPacked c i arg1 harg1 arg2 harg2 arg3 harg3 arg4 harg4 arg5 harg5 arg6 harg6 x0 x1 x2 x3 xo' :=
  congrArg (fun L => VO0_4.read (Elt F) (VO0_4.writes (Elt F) VO0_4.junk L)) (mask_packed_pieces c i arg1 harg1 arg2 harg2 arg3 harg3 arg4 harg4 arg5 harg5 arg6 harg6 x0 x1 x2 x3 xo xo')

theorem maskCount_first (h : (i 0).val = 0) : maskCount c i arg1 harg1 arg2 harg2 arg3 harg3 arg4 harg4 arg5 harg5 arg6 harg6 x0 x1 x2 x3 xo = maskCount c i arg1 harg1 arg2 harg2 arg3 harg3 arg4 harg4 arg5 harg5 arg6 harg6 x0 x1 x2 x3 xo' :=
  congrArg (fun L => VO0_5.read (Elt F) (VO0_5.writes (Elt F) VO0_5.junk L)) (mask_count_pieces c i arg1 harg1 arg2 harg2 arg3 harg3 arg4 harg4 arg5 harg5 arg6 harg6 x0 x1 x2 x3 xo xo' h)

/-- Both. -/
def maskOut : Vec F S1x224x224 .i32 × Vec F S1x1 .i32 :=
  (maskPacked c i arg1 harg1 arg2 harg2 arg3 harg3 arg4 harg4 arg5 harg5 arg6 harg6 x0 x1 x2 x3 xo, maskCount c i arg1 harg1 arg2 harg2 arg3 harg3 arg4 harg4 arg5 harg5 arg6 harg6 x0 x1 x2 x3 xo)

theorem maskOut_first (h : (i 0).val = 0) : maskOut c i arg1 harg1 arg2 harg2 arg3 harg3 arg4 harg4 arg5 harg5 arg6 harg6 x0 x1 x2 x3 xo = maskOut c i arg1 harg1 arg2 harg2 arg3 harg3 arg4 harg4 arg5 harg5 arg6 harg6 x0 x1 x2 x3 xo' := by
  unfold maskOut
  rw [maskPacked_any c i arg1 harg1 arg2 harg2 arg3 harg3 arg4 harg4 arg5 harg5 arg6 harg6 x0 x1 x2 x3 xo xo', maskCount_first c i arg1 harg1 arg2 harg2 arg3 harg3 arg4 harg4 arg5 harg5 arg6 harg6 x0 x1 x2 x3 xo xo' h]

end MaskValues

section Regions
variable (V : (c : Dev nD) → (b : Ref sig .tc) → Buf (Elt F) ((c : Thread nD τ).loc b))

/-! ## The mask region -/

/-- Window `w`'s block at point `t`, cut from the array the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! The staging buffers of each point. -/

abbrev ms0_0 (t : Fin cfg0.N) : Memref sig .tc .vmem S224x224 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S224x224 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S224x224 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S224x224 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x224x224 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1x1 .i32 := win0_5.stage (cfg0.slots t 5)
abbrev hs0_5 (t : Fin cfg0.N) : (ms0_5 t).IsWhole := hstage0_5 ((cfg0.slots t 5).cast nbuf0_5)

/-- What the two outputs' buffers hold after point `n`: the packed mask of its tile, and the count of all tiles up to it. -/
def outsAt0 (c : Dev nD) : (n : ℕ) → n < cfg0.N → Vec F S1x224x224 .i32 × Vec F S1x1 .i32
  | 0, hn => let t : Fin cfg0.N := ⟨0, hn⟩
    maskOut c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) (iblk0 V c 3 t) (fun _ => (0#32 : BitVec 32))
  | n + 1, hn => let t : Fin cfg0.N := ⟨n + 1, hn⟩
    maskOut c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) (iblk0 V c 3 t)
      (outsAt0 c n (Nat.lt_of_succ_lt hn)).2

theorem coords0_zero (t : Fin cfg0.N) (h0 : t.val = 0) : ((grid0.coords t) 0).val = 0 := by
  have e0 : (grid0.coords t 0).val = t.val / 1 % 64 := Pipeline.Grid.coords_val t 0 (by decide) rfl
  rw [e0, h0]

/-- At the first point, whatever the count's buffer held. -/
theorem outsAt0_first (c : Dev nD) (t : Fin cfg0.N) (h0 : t.val = 0) (xo : Vec F S1x1 .i32) :
    outsAt0 V c t.val t.isLt = maskOut c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) (iblk0 V c 3 t) xo := by
  obtain ⟨n, hn⟩ := t
  obtain rfl : n = 0 := h0
  exact maskOut_first _ _ _ _ _ _ _ _ _ _ _ _ _ _ _ _ _ _ _ _ (coords0_zero _ rfl)

/-- At a later point, from the count the point before left. -/
theorem outsAt0_later (c : Dev nD) (t : Fin cfg0.N) (h0 : t.val ≠ 0) :
    outsAt0 V c t.val t.isLt = maskOut c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) (iblk0 V c 3 t)
      (outsAt0 V c (t.val - 1) (Nat.lt_of_le_of_lt (Nat.sub_le _ _) t.isLt)).2 := by
  obtain ⟨n, hn⟩ := t
  cases n with
  | zero => exact absurd rfl h0
  | succ n => rfl

/-- The region's proof data: the arrays it is entered with, and what each window's buffer holds after each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_5_later (c : Dev nD) (t : Fin cfg0.N) (h0 : t.val ≠ 0) (d) :
    (dat0 V c).before 5 t d = (outsAt0 V c (t.val - 1) (Nat.lt_of_le_of_lt (Nat.sub_le _ _) t.isLt)).2 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dat0]

/-- What the body starts from at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- What it leaves. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

/-- The body at point `t`, from the count's buffer holding `xo` there, when the outputs after the point are the body's on it. -/
theorem sound_body0_of (c : Dev nD) (t : Fin cfg0.N) (hb : ∀ d, outsAt0 V c t.val t.isLt
      = maskOut c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) (iblk0 V c 3 t) ((dat0 V c).before 5 t d)) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  rw [hb d5]; unfold maskOut; dsimp only
  iapply ((maskRun c (grid0.coords t) _ _ _ _ _ _ _ _ _ _ _ _ (iblk0 V c 0 t) (iblk0 V c 1 t) (iblk0 V c 2 t) (iblk0 V c 3 t) _).2.2 Set.univ _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; unfold maskPacked; exact View.read_writes_of_cover _ _ _ _ _ (mask_packed_cover c (grid0.coords t) _ _ _ _ _ _ _ _ _ _ _ _ (iblk0 V c 0 t) (iblk0 V c 1 t) (iblk0 V c 2 t) (iblk0 V c 3 t) _)
  unfold owns; iexists _; isplitr
  swap; · iexact H5
  ipureintro; unfold maskCount; exact View.read_writes_of_cover _ _ _ _ _ (mask_count_cover c (grid0.coords t) _ _ _ _ _ _ _ _ _ _ _ _ (iblk0 V c 0 t) (iblk0 V c 1 t) (iblk0 V c 2 t) (iblk0 V c 3 t) _)

theorem sound_body0 (c : Dev nD) (t : Fin cfg0.N) :
    bodyPre0 V c t ⊢ wp frame (wpE (defs₀ (F := F)) Variants.none c none) Set.univ (bodyAt0 t) (fun _ => bodyPost0 V c t) :=
  sound_body0_of V c t fun d => by
    by_cases h0 : t.val = 0
    · exact outsAt0_first V c t h0 _
    · rw [before0_5_later V c t h0]; exact outsAt0_later V c t h0

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! ## The scaling region -/

/-- Window `w`'s block at point `t`, cut from the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The buffer the output block is read back through. -/
abbrev VO1_3 : View sig .tc .vmem S48x224x224 .f32 := (Memref.whole cc1_stg3_0 : Memref sig .tc .vmem S48x224x224 .f32).view
abbrev ms1_0 (t : Fin cfg1.N) : Memref sig .tc .smem S1x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S48x224x224 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x224x224 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S48x224x224 .f32 := win1_3.stage (cfg1.slots t 3)
abbrev hs1_3 (t : Fin cfg1.N) : (ms1_3 t).IsWhole := hstage1_3 ((cfg1.slots t 3).cast nbuf1_3)

omit V in
/-- The scaling kernel's stores fill its block. -/
theorem apply_cover (c : Dev nD) (i : grid1.Coords) (arg1 : Memref sig .tc .smem S1x1 .i32) (harg1 : arg1.IsWhole) (arg2 : Memref sig .tc .vmem S48x224x224 .f32) (harg2 : arg2.IsWhole)
    (arg3 : Memref sig .tc .vmem S2x224x224 .i32) (harg3 : arg3.IsWhole) (arg4 : Memref sig .tc .vmem S48x224x224 .f32) (harg4 : arg4.IsWhole)
    (x0 : Vec F S1x1 .i32) (x1 : Vec F S48x224x224 .f32) (x2 : Vec F S2x224x224 .i32) (y : S48x224x224.Idx) :
    ∃ pc ∈ (applyRun c i arg1 harg1 arg2 harg2 arg3 harg3 arg4 harg4 x0 x1 x2).1, y ∈ pc.1.set :=
  View.cover_of_tiledL (applyRun c i arg1 harg1 arg2 harg2 arg3 harg3 arg4 harg4 x0 x1 x2).1 S1x224x224.size (by sl_kernel_rfl) y

/-- The output block the body leaves. -/
def applyOut (c : Dev nD) (i : grid1.Coords) (arg1 : Memref sig .tc .smem S1x1 .i32) (harg1 : arg1.IsWhole) (arg2 : Memref sig .tc .vmem S48x224x224 .f32) (harg2 : arg2.IsWhole)
    (arg3 : Memref sig .tc .vmem S2x224x224 .i32) (harg3 : arg3.IsWhole) (arg4 : Memref sig .tc .vmem S48x224x224 .f32) (harg4 : arg4.IsWhole)
    (x0 : Vec F S1x1 .i32) (x1 : Vec F S48x224x224 .f32) (x2 : Vec F S2x224x224 .i32) : Vec F S48x224x224 .f32 :=
  VO1_3.read (Elt F) (VO1_3.writes (Elt F) VO1_3.junk (applyRun c i arg1 harg1 arg2 harg2 arg3 harg3 arg4 harg4 x0 x1 x2).1)

/-- What the output's buffer holds after point `t`. -/
def outsAt1 (c : Dev nD) (t : Fin cfg1.N) : Vec F S48x224x224 .f32 :=
  applyOut c (grid1.coords t) (ms1_0 t) (hs1_0 t) (ms1_1 t) (hs1_1 t) (ms1_2 t) (hs1_2 t) (ms1_3 t) (hs1_3 t) (iblk1 V c 0 t) (iblk1 V c 1 t) (iblk1 V c 2 t)

/-- The region's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body starts from at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- What it leaves. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outsAt1
  unfold applyOut
  iintro ⟨HΦ, Ho, ⟨%d0, H0⟩, ⟨%d1, H1⟩, ⟨%d2, H2⟩, ⟨%d3, H3⟩⟩
  iapply ((applyRun c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (apply_cover c _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

section Run
variable (m : (ℓ : Loc nD τ sig) → Buf (Elt F) ℓ) (ρ : Dev nD → PrngReg)

/-! ## The launch: the host stretches and the two regions in order -/

/-- The argument arrays. -/
abbrev argRefs : List (Ref sig .tc) := [main_arg0, main_arg1]

/-! The host stretches: which buffers each writes. No argument is among them. -/

theorem hostOps0_fresh : (hostOps0 : List (HloOp τ sig (Elt F))).Forall fun op => op.fresh = ∅ := by
  simp only [List.Forall]; repeat' constructor
abbrev hostOps0_W : List (Ref sig .tc) := [main_c, main_c_0, main_cst, main_v0, main_cst_1, main_v1, main_v2, main_v3, main_v4, main_c_2, main_v5, main_c_3]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor
abbrev hostOps0_1_W : List (Ref sig .tc) := [main_call0_v0, main_call0_v1, main_v6]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor
abbrev hostOps0_2_W : List (Ref sig .tc) := [main_v7]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v10]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-! Every buffer at each boundary between two stretches or regions, from the launch on. -/

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn1 a ha)).trans (W4_args m ρ c a ha)
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after hostOps2 (W5 m ρ c)
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h
theorem W6_args (c : Dev nD) : ∀ a ∈ argRefs, W6 m ρ c (Proc.devRef .tc a) = m ((c : Thread nD τ).loc a) :=
  fun a ha => (W6_of m ρ c a (hostOps2_args a ha)).trans (W5_args m ρ c a ha)

/-! The arguments end as launched. -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)

/-! The proof data of the two regions, and what is carried across the boundaries besides the buffers. -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! The two regions between their boundaries. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! The program as that sequence, and its run. -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The program runs to its end; the arguments end as launched, the result array holds what the last boundary says, and
    every semaphore reads zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v10) = W6 m ρ c (Proc.devRef .tc main_v10))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_arg0 (by decide))).trans (W6_main_arg0 m ρ c),
       (h c _ (mem_uc main_arg1 (by decide))).trans (W6_main_arg1 m ρ c),
       h c _ (mem_uc main_v10 (by decide))⟩), funext fun g => hz g (.inr (no_unscoped g.2))⟩)

end Run

end Cert.KernelIdeal.Drop

end
-- ==== Proof.TableLeaf.lean ====
/- A printed table is a tree of choices by number; a run of 128 entries of it is read all at once. -/
module

public import proofs.«01_k».proof.Proof.KernelIdealRun

@[expose] public section

set_option maxRecDepth 100000

namespace Cert.KernelIdeal.Drop

open Cert.KernelIdeal Cert.KernelIdeal.Gen Idealize.ShloMosaic

/-- A choice among 128 values by number, as the entry of their list. -/
theorem choice {α : Type} {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 d : α} : ∀ n : Fin 128, (match n.val with | 0 => a0 | 1 => a1 | 2 => a2 | 3 => a3 | 4 => a4 | 5 => a5 | 6 => a6 | 7 => a7 | 8 => a8 | 9 => a9 | 10 => a10 | 11 => a11 | 12 => a12 | 13 => a13 | 14 => a14 | 15 => a15 | 16 => a16 | 17 => a17 | 18 => a18 | 19 => a19 | 20 => a20 | 21 => a21 | 22 => a22 | 23 => a23 | 24 => a24 | 25 => a25 | 26 => a26 | 27 => a27 | 28 => a28 | 29 => a29 | 30 => a30 | 31 => a31 | 32 => a32 | 33 => a33 | 34 => a34 | 35 => a35 | 36 => a36 | 37 => a37 | 38 => a38 | 39 => a39 | 40 => a40 | 41 => a41 | 42 => a42 | 43 => a43 | 44 => a44 | 45 => a45 | 46 => a46 | 47 => a47 | 48 => a48 | 49 => a49 | 50 => a50 | 51 => a51 | 52 => a52 | 53 => a53 | 54 => a54 | 55 => a55 | 56 => a56 | 57 => a57 | 58 => a58 | 59 => a59 | 60 => a60 | 61 => a61 | 62 => a62 | 63 => a63 | 64 => a64 | 65 => a65 | 66 => a66 | 67 => a67 | 68 => a68 | 69 => a69 | 70 => a70 | 71 => a71 | 72 => a72 | 73 => a73 | 74 => a74 | 75 => a75 | 76 => a76 | 77 => a77 | 78 => a78 | 79 => a79 | 80 => a80 | 81 => a81 | 82 => a82 | 83 => a83 | 84 => a84 | 85 => a85 | 86 => a86 | 87 => a87 | 88 => a88 | 89 => a89 | 90 => a90 | 91 => a91 | 92 => a92 | 93 => a93 | 94 => a94 | 95 => a95 | 96 => a96 | 97 => a97 | 98 => a98 | 99 => a99 | 100 => a100 | 101 => a101 | 102 => a102 | 103 => a103 | 104 => a104 | 105 => a105 | 106 => a106 | 107 => a107 | 108 => a108 | 109 => a109 | 110 => a110 | 111 => a111 | 112 => a112 | 113 => a113 | 114 => a114 | 115 => a115 | 116 => a116 | 117 => a117 | 118 => a118 | 119 => a119 | 120 => a120 | 121 => a121 | 122 => a122 | 123 => a123 | 124 => a124 | 125 => a125 | 126 => a126 | 127 => a127 | _ => d) = [a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, a60, a61, a62, a63, a64, a65, a66, a67, a68, a69, a70, a71, a72, a73, a74, a75, a76, a77, a78, a79, a80, a81, a82, a83, a84, a85, a86, a87, a88, a89, a90, a91, a92, a93, a94, a95, a96, a97, a98, a99, a100, a101, a102, a103, a104, a105, a106, a107, a108, a109, a110, a111, a112, a113, a114, a115, a116, a117, a118, a119, a120, a121, a122, a123, a124, a125, a126, a127].getD n.val d := by
  intro n
  fin_cases n <;> rfl

theorem entry_of_run {α : Type} (f : ℕ → α) (d : α) {r : ℕ} (hr : r < 128) : ((List.range 128).map f).getD r d = f r := by
  simp [List.getD_eq_getElem?_getD, hr]

/-- One run of 128 entries of a table, each the function's value at its place. -/
theorem leaf {α : Type} {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 d : α} {F : ℕ → α} {J k i : ℕ} (hJ : i / 16384 % 128 = J) (hk : i / 128 % 128 = k) (hi : i < 50176)
    (h : [a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, a60, a61, a62, a63, a64, a65, a66, a67, a68, a69, a70, a71, a72, a73, a74, a75, a76, a77, a78, a79, a80, a81, a82, a83, a84, a85, a86, a87, a88, a89, a90, a91, a92, a93, a94, a95, a96, a97, a98, a99, a100, a101, a102, a103, a104, a105, a106, a107, a108, a109, a110, a111, a112, a113, a114, a115, a116, a117, a118, a119, a120, a121, a122, a123, a124, a125, a126, a127] = (List.range 128).map fun r => F (16384 * J + 128 * k + r)) :
    (match i % 128 with | 0 => a0 | 1 => a1 | 2 => a2 | 3 => a3 | 4 => a4 | 5 => a5 | 6 => a6 | 7 => a7 | 8 => a8 | 9 => a9 | 10 => a10 | 11 => a11 | 12 => a12 | 13 => a13 | 14 => a14 | 15 => a15 | 16 => a16 | 17 => a17 | 18 => a18 | 19 => a19 | 20 => a20 | 21 => a21 | 22 => a22 | 23 => a23 | 24 => a24 | 25 => a25 | 26 => a26 | 27 => a27 | 28 => a28 | 29 => a29 | 30 => a30 | 31 => a31 | 32 => a32 | 33 => a33 | 34 => a34 | 35 => a35 | 36 => a36 | 37 => a37 | 38 => a38 | 39 => a39 | 40 => a40 | 41 => a41 | 42 => a42 | 43 => a43 | 44 => a44 | 45 => a45 | 46 => a46 | 47 => a47 | 48 => a48 | 49 => a49 | 50 => a50 | 51 => a51 | 52 => a52 | 53 => a53 | 54 => a54 | 55 => a55 | 56 => a56 | 57 => a57 | 58 => a58 | 59 => a59 | 60 => a60 | 61 => a61 | 62 => a62 | 63 => a63 | 64 => a64 | 65 => a65 | 66 => a66 | 67 => a67 | 68 => a68 | 69 => a69 | 70 => a70 | 71 => a71 | 72 => a72 | 73 => a73 | 74 => a74 | 75 => a75 | 76 => a76 | 77 => a77 | 78 => a78 | 79 => a79 | 80 => a80 | 81 => a81 | 82 => a82 | 83 => a83 | 84 => a84 | 85 => a85 | 86 => a86 | 87 => a87 | 88 => a88 | 89 => a89 | 90 => a90 | 91 => a91 | 92 => a92 | 93 => a93 | 94 => a94 | 95 => a95 | 96 => a96 | 97 => a97 | 98 => a98 | 99 => a99 | 100 => a100 | 101 => a101 | 102 => a102 | 103 => a103 | 104 => a104 | 105 => a105 | 106 => a106 | 107 => a107 | 108 => a108 | 109 => a109 | 110 => a110 | 111 => a111 | 112 => a112 | 113 => a113 | 114 => a114 | 115 => a115 | 116 => a116 | 117 => a117 | 118 => a118 | 119 => a119 | 120 => a120 | 121 => a121 | 122 => a122 | 123 => a123 | 124 => a124 | 125 => a125 | 126 => a126 | 127 => a127 | _ => d) = F i := by
  refine (choice ⟨i % 128, Nat.mod_lt i (by decide)⟩).trans ?_
  rw [h]
  show List.getD _ (i % 128) d = _
  rw [entry_of_run _ _ (Nat.mod_lt i (by decide))]
  congr 1; omega

end Cert.KernelIdeal.Drop

end
-- ==== Proof.TablePositions.lean ====
/- The mask kernel's printed table of the positions inside a sample. -/
module

public import proofs.«01_k».proof.Proof.TableLeaf

@[expose] public section

set_option maxRecDepth 100000
set_option maxHeartbeats 16000000

namespace Cert.KernelIdeal.Drop

open Cert.KernelIdeal Cert.KernelIdeal.Gen Idealize.ShloMosaic

/-- The position word at place `i` of the 224×224 square. -/
def positionAt (i : ℕ) : BitVec 32 := BitVec.ofNat 32 (i / 224 * 220 + i % 224)

theorem positions_0 (i : ℕ) (h1 : i / 16384 % 128 = 0) (hi : i < 49280) : lit0t1_0 i = positionAt i := by
  unfold lit0t1_0
  split
  all_goals first | omega | (rename_i h2; exact leaf h1 h2 (by omega) (by decide +kernel)) | (exfalso; simp only [imp_false] at *; omega)

theorem positions_1 (i : ℕ) (h1 : i / 16384 % 128 = 1) (hi : i < 49280) : lit0t1_1 i = positionAt i := by
  unfold lit0t1_1
  split
  all_goals first | omega | (rename_i h2; exact leaf h1 h2 (by omega) (by decide +kernel)) | (exfalso; simp only [imp_false] at *; omega)

theorem positions_2 (i : ℕ) (h1 : i / 16384 % 128 = 2) (hi : i < 49280) : lit0t1_2 i = positionAt i := by
  unfold lit0t1_2
  split
  all_goals first | omega | (rename_i h2; exact leaf h1 h2 (by omega) (by decide +kernel)) | (exfalso; simp only [imp_false] at *; omega)

theorem positions_3 (i : ℕ) (h1 : i / 16384 % 128 = 3) (hi : i < 49280) : lit0t1_3 i = positionAt i := by
  unfold lit0t1_3
  split
  all_goals first | omega | (rename_i h2; exact leaf h1 h2 (by omega) (by decide +kernel)) | (exfalso; simp only [imp_false] at *; omega)

theorem positions_eq (i : ℕ) (hi : i < 49280) : lit0t i = positionAt i := by
  unfold lit0t
  split
  · exact positions_0 i (by omega) hi
  · exact positions_1 i (by omega) hi
  · exact positions_2 i (by omega) hi
  · exact positions_3 i (by omega) hi
  · exfalso; simp only [imp_false] at *; omega

/-- The position words over the seeds' square. -/
theorem lit0_at (y : Fin 220) (x : Fin 220) : lit0 ⟨y.val * 224 + x.val, by omega⟩ = BitVec.ofNat 32 (y.val * 220 + x.val) := by
  refine (positions_eq (y.val * 224 + x.val) (by omega)).trans ?_
  unfold positionAt
  congr 1; omega

end Cert.KernelIdeal.Drop

end
-- ==== Proof.TableSeeds.lean ====
/- The mask kernel's printed table of the seeds' square. -/
module

public import proofs.«01_k».proof.Proof.TableLeaf

@[expose] public section

set_option maxRecDepth 100000
set_option maxHeartbeats 16000000

namespace Cert.KernelIdeal.Drop

open Cert.KernelIdeal Cert.KernelIdeal.Gen Idealize.ShloMosaic

/-- Whether place `i` of the 224×224 square is in the seeds' square. -/
def seedAt (i : ℕ) : BitVec 1 := BitVec.ofBool (decide (i / 224 < 220 ∧ i % 224 < 220))

theorem seeds_0 (i : ℕ) (h1 : i / 16384 % 128 = 0) (hi : i < 50176) : lit1t1_0 i = seedAt i := by
  unfold lit1t1_0
  split
  all_goals first | omega | (rename_i h2; exact leaf h1 h2 (by omega) (by decide +kernel)) | (exfalso; simp only [imp_false] at *; omega)

theorem seeds_1 (i : ℕ) (h1 : i / 16384 % 128 = 1) (hi : i < 50176) : lit1t1_1 i = seedAt i := by
  unfold lit1t1_1
  split
  all_goals first | omega | (rename_i h2; exact leaf h1 h2 (by omega) (by decide +kernel)) | (exfalso; simp only [imp_false] at *; omega)

theorem seeds_2 (i : ℕ) (h1 : i / 16384 % 128 = 2) (hi : i < 50176) : lit1t1_2 i = seedAt i := by
  unfold lit1t1_2
  split
  all_goals first | omega | (rename_i h2; exact leaf h1 h2 (by omega) (by decide +kernel)) | (exfalso; simp only [imp_false] at *; omega)

theorem seeds_3 (i : ℕ) (h1 : i / 16384 % 128 = 3) (hi : i < 50176) : lit1t1_3 i = seedAt i := by
  unfold lit1t1_3
  split
  all_goals first | omega | (rename_i h2; exact leaf h1 h2 (by omega) (by decide +kernel)) | (exfalso; simp only [imp_false] at *; omega)

theorem seeds_eq (i : ℕ) (hi : i < 50176) : lit1t i = seedAt i := by
  unfold lit1t
  split
  · exact seeds_0 i (by omega) hi
  · exact seeds_1 i (by omega) hi
  · exact seeds_2 i (by omega) hi
  · exact seeds_3 i (by omega) hi
  · exfalso; simp only [imp_false] at *; omega

/-- The seeds' square. -/
theorem lit1_at (y : Fin 224) (x : Fin 224) : lit1 ⟨y.val * 224 + x.val, by omega⟩ = BitVec.ofBool (decide (y.val < 220 ∧ x.val < 220)) := by
  refine (seeds_eq (y.val * 224 + x.val) (by omega)).trans ?_
  unfold seedAt
  rw [show (y.val * 224 + x.val) / 224 = y.val by omega, show (y.val * 224 + x.val) % 224 = x.val by omega]

end Cert.KernelIdeal.Drop

end
-- ==== Proof.TableBand.lean ====
/- The mask kernel's printed band matrix. -/
module

public import proofs.«01_k».proof.Proof.TableLeaf

@[expose] public section

set_option maxRecDepth 100000
set_option maxHeartbeats 16000000

namespace Cert.KernelIdeal.Drop

open Cert.KernelIdeal Cert.KernelIdeal.Gen Idealize.ShloMosaic

/-- The word at place `i` of the 224×224 band matrix. -/
def bandAt (i : ℕ) : BitVec 32 := if i / 224 ≤ i % 224 ∧ i % 224 ≤ i / 224 + 4 then 0x3F800000#32 else 0x00000000#32

theorem band_0 (i : ℕ) (h1 : i / 16384 % 128 = 0) (hi : i < 50176) : lit2t1_0 i = bandAt i := by
  unfold lit2t1_0
  split
  all_goals first | omega | (rename_i h2; exact leaf h1 h2 (by omega) (by decide +kernel)) | (exfalso; simp only [imp_false] at *; omega)

theorem band_1 (i : ℕ) (h1 : i / 16384 % 128 = 1) (hi : i < 50176) : lit2t1_1 i = bandAt i := by
  unfold lit2t1_1
  split
  all_goals first | omega | (rename_i h2; exact leaf h1 h2 (by omega) (by decide +kernel)) | (exfalso; simp only [imp_false] at *; omega)

theorem band_2 (i : ℕ) (h1 : i / 16384 % 128 = 2) (hi : i < 50176) : lit2t1_2 i = bandAt i := by
  unfold lit2t1_2
  split
  all_goals first | omega | (rename_i h2; exact leaf h1 h2 (by omega) (by decide +kernel)) | (exfalso; simp only [imp_false] at *; omega)

theorem band_3 (i : ℕ) (h1 : i / 16384 % 128 = 3) (hi : i < 50176) : lit2t1_3 i = bandAt i := by
  unfold lit2t1_3
  split
  all_goals first | omega | (rename_i h2; exact leaf h1 h2 (by omega) (by decide +kernel)) | (exfalso; simp only [imp_false] at *; omega)

theorem band_eq (i : ℕ) (hi : i < 50176) : lit2t i = bandAt i := by
  unfold lit2t
  split
  · exact band_0 i (by omega) hi
  · exact band_1 i (by omega) hi
  · exact band_2 i (by omega) hi
  · exact band_3 i (by omega) hi
  · exfalso; simp only [imp_false] at *; omega

/-- The band matrix's words. -/
theorem lit2_at (k : Fin 224) (j : Fin 224) : lit2 ⟨k.val * 224 + j.val, by omega⟩ = if k.val ≤ j.val ∧ j.val ≤ k.val + 4 then 0x3F800000#32 else 0x00000000#32 := by
  refine (band_eq (k.val * 224 + j.val) (by omega)).trans ?_
  unfold bandAt
  rw [show (k.val * 224 + j.val) / 224 = k.val by omega, show (k.val * 224 + j.val) % 224 = j.val by omega]

end Cert.KernelIdeal.Drop

end
-- ==== Proof.KernelIdealTables.lean ====
/- The mask kernel's printed tables. -/
module

public import proofs.«01_k».proof.Proof.TablePositions
public import proofs.«01_k».proof.Proof.TableSeeds
public import proofs.«01_k».proof.Proof.TableBand
-- ==== Proof.KernelIdealMaskSpec.lean ====
/- What the mask kernel's body stores, written as one step repeated for the 24 samples of a tile: the random words of the
   sample, the seeds under the threshold, their window count by two matrix products, and the two running sums. -/
module

public import proofs.«01_k».proof.Proof.KernelIdealRun
public import Idealize.ShloMosaic.Lib.WholeRead

@[expose] public section

set_option maxRecDepth 16384

noncomputable section

namespace Cert.KernelIdeal.Drop

open Cert.KernelIdeal.Gen
open Idealize.ShloMosaic Idealize.SL.Sem

variable {F : FTy → Type} [FloatOps F]

/-- One word everywhere. -/
abbrev bc (w : BitVec 32) : IVec S224x224 32 := broadcast S224x224 w

/-- A left rotation by `a` (with `b = 32 - a`) of every word, mixed with `y`. -/
def rotXor (a b : BitVec 32) (x y : IVec S224x224 32) : IVec S224x224 32 := xori (ori (shli x (bc a)) (shrui x (bc b))) y

/-- Four rounds by the rotations `a`, then the two key words `k`. -/
def quad {α : Type} (a0 b0 a1 b1 a2 b2 a3 b3 k0 k1 : BitVec 32) (x0 x1 : IVec S224x224 32) (next : IVec S224x224 32 → IVec S224x224 32 → α) : α :=
  let p0 := addi x0 x1; let q0 := rotXor a0 b0 x1 p0
  let p1 := addi p0 q0; let q1 := rotXor a1 b1 q0 p1
  let p2 := addi p1 q1; let q2 := rotXor a2 b2 q1 p2
  let p3 := addi p2 q2; let q3 := rotXor a3 b3 q2 p3
  next (addi p3 (bc k0)) (addi q3 (bc k1))

/-- The random words of one sample from its counters with the second key word added. -/
def bitsVec (x1 : IVec S224x224 32) : IVec S224x224 32 :=
  quad 13#32 19#32 15#32 17#32 26#32 6#32 6#32 26#32 2545468385#32 161448895#32 (bc 2247515013#32) x1 fun x0 x1 =>
  quad 17#32 15#32 29#32 3#32 16#32 16#32 24#32 8#32 161448894#32 2247515015#32 x0 x1 fun x0 x1 =>
  quad 13#32 19#32 15#32 17#32 26#32 6#32 6#32 26#32 2247515013#32 2545468388#32 x0 x1 fun x0 x1 =>
  quad 17#32 15#32 29#32 3#32 16#32 16#32 24#32 8#32 2545468385#32 161448898#32 x0 x1 fun x0 x1 =>
  quad 13#32 19#32 15#32 17#32 26#32 6#32 6#32 26#32 161448894#32 2247515018#32 x0 x1 fun x0 x1 => xori x0 x1

/-- The counters of sample `k` of the tile at grid point `i`, with the second key word added. -/
def counters (i : grid0.Coords) (lin : IVec S224x224 32) (k : ℕ) : IVec S224x224 32 :=
  addi lin (bc (Scalar.addi (Scalar.muli (Scalar.addi (Scalar.muli (BitVec.ofNat 32 (i 0).val) 24#32) (BitVec.ofNat 32 k)) 48400#32) 2545468385#32))

/-- The positions of one sample covered by a seed's block: 1 there, 0 elsewhere. -/
def dropVec (i : grid0.Coords) (lin ts : Vec F S224x224 .i32) (mm nn : Vec F S224x224 .f32) (k : ℕ) : FVec F S224x224 .f32 :=
  minimumf (matmul dot_S224x224_S224x224_S224x224_1_0_0_1_n_n none (shapeCast S224x224 nn shapeCasts_S224x224_S224x224)
    (matmul dot_S224x224_S224x224_S224x224_1_0_0_1_n_n none
      (select (cmpi .ult (bitsVec (counters i lin k)) (shapeCast S224x224 ts shapeCasts_S224x224_S224x224))
        (broadcast S224x224 (Scalar.ofBits .f32 0x3F800000#32)) (broadcast S224x224 (Scalar.ofBits .f32 0x00000000#32)))
      mm (constant S224x224 .f32 0x00000000#32)) (constant S224x224 .f32 0x00000000#32)) (broadcast S224x224 (Scalar.ofBits .f32 0x3F800000#32))

/-- The packed sum of the first `k` samples: sample `j` weighs `2^j`. -/
def packedUpTo (i : grid0.Coords) (lin ts : Vec F S224x224 .i32) (mm nn : Vec F S224x224 .f32) : ℕ → FVec F S224x224 .f32
  | 0 => broadcast S224x224 (Scalar.ofBits .f32 0x00000000#32)
  | k + 1 => addf (packedUpTo i lin ts mm nn k) (mulf (dropVec i lin ts mm nn k) (broadcast S224x224 (Scalar.ofBits .f32 (BitVec.ofNat 32 (0x3F800000 + k * 0x800000)))))

/-- The number of the first `k` samples that drop each position. -/
def accUpTo (i : grid0.Coords) (lin ts : Vec F S224x224 .i32) (mm nn : Vec F S224x224 .f32) : ℕ → FVec F S224x224 .f32
  | 0 => broadcast S224x224 (Scalar.ofBits .f32 0x00000000#32)
  | k + 1 => addf (accUpTo i lin ts mm nn k) (dropVec i lin ts mm nn k)

/-- The whole tile's sum of a vector. -/
def tileSum (v : FVec F S224x224 .f32) : F .f32 :=
  extractAt ![0, 0, 0] (shapeCast S1x1x1 (multiReduction .add [1, 2] S1 (shapeCast S1x224x224 v shapeCasts_S224x224_S1x224x224) 0x00000000#32 reduces_S1x224x224_S1 (.inl rfl) rfl) shapeCasts_S1_S1x1x1) inpos_S1x1x1_p0_0_0

section Pieces
variable (c : Dev nD) (i : grid0.Coords) (arg1 : Memref sig .tc .vmem S224x224 .i32) (harg1 : arg1.IsWhole) (arg2 : Memref sig .tc .vmem S224x224 .i32) (harg2 : arg2.IsWhole)
    (arg3 : Memref sig .tc .vmem S224x224 .f32) (harg3 : arg3.IsWhole) (arg4 : Memref sig .tc .vmem S224x224 .f32) (harg4 : arg4.IsWhole)
    (arg5 : Memref sig .tc .vmem S1x224x224 .i32) (harg5 : arg5.IsWhole) (arg6 : Memref sig .tc .smem S1x1 .i32) (harg6 : arg6.IsWhole)
    (x0 : Vec F S224x224 .i32) (x1 : Vec F S224x224 .i32) (x2 : Vec F S224x224 .f32) (x3 : Vec F S224x224 .f32) (xo : Vec F S1x1 .i32)

/-- A whole buffer read through its window. -/
abbrev rd2 {e : EltTy} (arg : Memref sig .tc .vmem S224x224 e) (h : arg.IsWhole) (x : Vec F S224x224 e) : Vec F S224x224 e :=
  View.readAt (Elt F) arg.view (Rect.unit ![0, 0] S224x224.size inb_S224x224_S224x224_0_0).toLoadRect (h.unread x)

theorem packed_pieces_eq : (maskRun c i arg1 harg1 arg2 harg2 arg3 harg3 arg4 harg4 arg5 harg5 arg6 harg6 x0 x1 x2 x3 xo).1
    = [⟨Rect.unit ![0, 0, 0] S1x224x224.size inb_S1x224x224_S1x224x224_0_0_0,
        shapeCast S1x224x224 (fptosi 32 (packedUpTo i (rd2 arg1 harg1 x0) (rd2 arg2 harg2 x1) (rd2 arg3 harg3 x2) (rd2 arg4 harg4 x3) 24)) shapeCasts_S224x224_S1x224x224⟩] := by
  sl_kernel_rfl

theorem count_pieces_eq : (maskRun c i arg1 harg1 arg2 harg2 arg3 harg3 arg4 harg4 arg5 harg5 arg6 harg6 x0 x1 x2 x3 xo).2.1
    = [⟨Rect.unit ![0, 0] S1x1.size inb_S1x1_S1x1_0_0,
        fun _ => Scalar.addi (Scalar.select (Scalar.cmpi .eq (BitVec.ofNat 32 (i 0).val) 0#32) 0#32 (View.readAt (Elt F) arg6.view (Rect.unit ![0, 0] S1x1.size inb_S1x1_S1x1_0_0).toLoadRect (harg6.unread xo) (Shape.Idx.first (numel1_S1x1.symm ▸ Nat.one_pos))))
          (Scalar.fptosi 32 (tileSum (accUpTo i (rd2 arg1 harg1 x0) (rd2 arg2 harg2 x1) (rd2 arg3 harg3 x2) (rd2 arg4 harg4 x3) 24)))⟩] := by
  sl_kernel_rfl

end Pieces

end Cert.KernelIdeal.Drop
-- ==== Proof.DropMaths.lean ====
/- The mathematics of the dropped blocks, with no program in sight: the random words, the threshold in its two forms, the
   window count, the packed sum of 24 samples and the conversion of a count. -/
module

public import Idealize.ShloMosaic.PureOps.Ideal.Laws
public import Idealize.ShloMosaic.Lib.IdealHost

@[expose] public section

set_option maxRecDepth 16384

noncomputable section

namespace Cert.DropBlock

open Idealize.ShloMosaic

/-! ## The random words -/

/-- A word rotated left by `a`, `b = 32 - a`. -/
def rotl (a b : ℕ) (x : BitVec 32) : BitVec 32 := (x <<< a) ||| (x >>> b)

/-- One round's second word from the sum `y` and the old second word `x`. -/
def mix (a b : ℕ) (x y : BitVec 32) : BitVec 32 := y ^^^ rotl a b x

/-- One round on a pair of words. -/
def round (a b : ℕ) (p : BitVec 32 × BitVec 32) : BitVec 32 × BitVec 32 := (p.1 + p.2, mix a b p.2 (p.1 + p.2))

/-- The key words added after four rounds. -/
def inject (k0 k1 n : BitVec 32) (p : BitVec 32 × BitVec 32) : BitVec 32 × BitVec 32 := (p.1 + k0, p.2 + k1 + n)

/-- The four rounds of the first kind. -/
def quadA (p : BitVec 32 × BitVec 32) : BitVec 32 × BitVec 32 := round 6 26 (round 26 6 (round 15 17 (round 13 19 p)))
/-- The four rounds of the second kind. -/
def quadB (p : BitVec 32 × BitVec 32) : BitVec 32 × BitVec 32 := round 24 8 (round 16 16 (round 29 3 (round 17 15 p)))

/-- The third key word. -/
def third (k0 k1 : BitVec 32) : BitVec 32 := k0 ^^^ k1 ^^^ 466688986#32

/-- The block function on a key and a counter, each of two words. -/
def threefry (k0 k1 x0 x1 : BitVec 32) : BitVec 32 × BitVec 32 :=
  inject (third k0 k1) k0 5#32 (quadA (inject k1 (third k0 k1) 4#32 (quadB (inject k0 k1 3#32 (quadA
    (inject (third k0 k1) k0 2#32 (quadB (inject k1 (third k0 k1) 1#32 (quadA (x0 + k0, x1 + k1))))))))))

/-- The key: seed 0 with 123 folded in. -/
theorem key_eq : threefry 0#32 0#32 0#32 123#32 = (2247515013#32, 2545468385#32) := by decide +kernel

/-- The random word of counter `n` under that key. -/
def bitsOf (n : BitVec 32) : BitVec 32 :=
  (threefry 2247515013#32 2545468385#32 0#32 n).1 ^^^ (threefry 2247515013#32 2545468385#32 0#32 n).2

/-- The same with the key words folded into constants and the round's sum on the right, from the counter with its key word
    added. -/
def quadK {α : Type} (a0 b0 a1 b1 a2 b2 a3 b3 : ℕ) (k0 k1 : BitVec 32) (x0 x1 : BitVec 32) (next : BitVec 32 → BitVec 32 → α) : α :=
  let p0 := x0 + x1; let q0 := rotl a0 b0 x1 ^^^ p0
  let p1 := p0 + q0; let q1 := rotl a1 b1 q0 ^^^ p1
  let p2 := p1 + q1; let q2 := rotl a2 b2 q1 ^^^ p2
  let p3 := p2 + q2; let q3 := rotl a3 b3 q2 ^^^ p3
  next (p3 + k0) (q3 + k1)

def bitsK (x1 : BitVec 32) : BitVec 32 :=
  quadK 13 19 15 17 26 6 6 26 2545468385#32 161448895#32 2247515013#32 x1 fun x0 x1 =>
  quadK 17 15 29 3 16 16 24 8 161448894#32 2247515015#32 x0 x1 fun x0 x1 =>
  quadK 13 19 15 17 26 6 6 26 2247515013#32 2545468388#32 x0 x1 fun x0 x1 =>
  quadK 17 15 29 3 16 16 24 8 2545468385#32 161448898#32 x0 x1 fun x0 x1 =>
  quadK 13 19 15 17 26 6 6 26 161448894#32 2247515018#32 x0 x1 fun x0 x1 => x0 ^^^ x1

theorem quadK_A {α : Type} (k0 k k' n : BitVec 32) (h : k' = k + n) (p : BitVec 32 × BitVec 32) (next : BitVec 32 → BitVec 32 → α) :
    quadK 13 19 15 17 26 6 6 26 k0 k' p.1 p.2 next = next (inject k0 k n (quadA p)).1 (inject k0 k n (quadA p)).2 := by
  subst h
  simp only [quadK, inject, quadA, round, mix, BitVec.xor_comm (rotl _ _ _) _, BitVec.add_assoc _ k n]

theorem quadK_B {α : Type} (k0 k k' n : BitVec 32) (h : k' = k + n) (p : BitVec 32 × BitVec 32) (next : BitVec 32 → BitVec 32 → α) :
    quadK 17 15 29 3 16 16 24 8 k0 k' p.1 p.2 next = next (inject k0 k n (quadB p)).1 (inject k0 k n (quadB p)).2 := by
  subst h
  simp only [quadK, inject, quadB, round, mix, BitVec.xor_comm (rotl _ _ _) _, BitVec.add_assoc _ k n]

theorem bitsK_eq (n : BitVec 32) : bitsK (n + 2545468385#32) = bitsOf n := by
  have h2 : third 2247515013#32 2545468385#32 = 161448894#32 := by decide
  have h0 : (0#32 + 2247515013#32 : BitVec 32) = 2247515013#32 := by decide
  unfold bitsK bitsOf threefry
  rw [h2, h0]
  rw [quadK_A 2545468385#32 161448894#32 _ 1#32 (by decide) (2247515013#32, n + 2545468385#32)]
  rw [quadK_B 161448894#32 2247515013#32 _ 2#32 (by decide)]
  rw [quadK_A 2247515013#32 2545468385#32 _ 3#32 (by decide)]
  rw [quadK_B 2545468385#32 161448894#32 _ 4#32 (by decide)]
  rw [quadK_A 161448894#32 2247515013#32 _ 5#32 (by decide)]

/-! ## What is dropped -/

/-- Position `(Y, X)` of sample `s` is covered by the block of a seed `(y, x)`. -/
def Dropped (S : ℕ → ℕ → ℕ → Prop) (s Y X : ℕ) : Prop :=
  ∃ y x : ℕ, y < 220 ∧ x < 220 ∧ y ≤ Y ∧ Y ≤ y + 4 ∧ x ≤ X ∧ X ≤ x + 4 ∧ S s y x

open Classical in
/-- As a number. -/
def dropNat (S : ℕ → ℕ → ℕ → Prop) (s Y X : ℕ) : ℕ := if Dropped S s Y X then 1 else 0

theorem dropNat_le (S : ℕ → ℕ → ℕ → Prop) (s Y X : ℕ) : dropNat S s Y X ≤ 1 := by
  unfold dropNat; split <;> omega

/-! ## Numbers -/

theorem coe_nat (n : ℕ) : ((n : ℝ) : EReal) = (n : EReal) := rfl

theorem fptosi_nat (n : ℕ) (h : n < 2 ^ 31) : Ideal.fptosi 32 (n : EReal) = BitVec.ofNat 32 n := by
  rw [← coe_nat, Ideal.fptosi, Ideal.toIntClamped_coe, if_pos (Nat.cast_nonneg n), Int.floor_natCast]
  have e : max (-((2 ^ (32 - 1) : ℕ) : ℤ)) (min (((2 ^ (32 - 1) : ℕ) : ℤ) - 1) (n : ℤ)) = (n : ℤ) := by
    norm_num at h ⊢; omega
  rw [e, BitVec.ofInt_natCast]

theorem toInt_ofNat (n : ℕ) (h : n < 2 ^ 31) : (BitVec.ofNat 32 n).toInt = (n : ℤ) := by
  rw [BitVec.toInt_eq_toNat_cond, BitVec.toNat_ofNat, Nat.mod_eq_of_lt (by omega)]
  split <;> omega

theorem ofBits_pow (k : ℕ) (h : k < 24) : Ideal.ofBits .f32 (BitVec.ofNat 32 (0x3F800000 + k * 0x800000)) = ((2 ^ k : ℕ) : EReal) := by
  rw [← coe_nat]
  interval_cases k <;> simp [Ideal.ofBits, Ideal.ieee, -EReal.coe_mul] <;> norm_num

theorem ofBits_total : Ideal.ofBits .f32 0x4C930000#32 = ((77070336 : ℕ) : EReal) := by
  rw [← coe_nat]
  simp [Ideal.ofBits, Ideal.ieee, -EReal.coe_mul]; norm_num

theorem ofBits_ulp : Ideal.ofBits .f32 0x34000000#32 = (((2 : ℝ) ^ (-23 : ℤ) : ℝ) : EReal) := by
  simp [Ideal.ofBits, Ideal.ieee, -EReal.coe_mul]; norm_num

theorem ofBits_scale : Ideal.ofBits .f32 0x4B000000#32 = (((2 : ℝ) ^ 23 : ℝ) : EReal) := by
  rw [show (2 : ℝ) ^ 23 = 8388608 by norm_num]
  simp [Ideal.ofBits, Ideal.ieee, -EReal.coe_mul]

theorem ofBits_last : Ideal.ofBits .f32 0x3F7FFFFE#32 = (((1 : ℝ) - 2 ^ (-23 : ℤ) : ℝ) : EReal) := by
  rw [show (1 : ℝ) - 2 ^ (-23 : ℤ) = 8388607 / 8388608 by norm_num]
  simp [Ideal.ofBits, Ideal.ieee, -EReal.coe_mul]; norm_num

theorem ofBits_bot : Ideal.ofBits .f32 0xFF800000#32 = ⊥ := by
  simp [Ideal.ofBits, Ideal.ieee]

/-! ## The window count -/

theorem ite_nat (p : Prop) [Decidable p] : (if p then (1 : EReal) else 0) = ((if p then 1 else 0 : ℕ) : EReal) := by
  split <;> simp

theorem min_nat_one (n : ℕ) : min (n : EReal) 1 = if n = 0 then 0 else 1 := by
  rcases Nat.eq_zero_or_pos n with rfl | h
  · simp
  · rw [if_neg (by omega), min_eq_right]
    exact_mod_cast h

open Classical in
/-- The count of the pairs in a window, cut at one, says whether there is one. -/
theorem window_count {ι κ : Type} [Fintype ι] [Fintype κ] (a : ι → Prop) (g : ι → κ → Prop) (b : κ → Prop) :
    min ((0 : EReal) + ∑ k : ι, (if a k then (1 : EReal) else 0) * ((0 : EReal) + ∑ l : κ, (if g k l then (1 : EReal) else 0) * (if b l then (1 : EReal) else 0))) 1
      = if ∃ k l, a k ∧ g k l ∧ b l then 1 else 0 := by
  simp only [ite_nat, zero_add, ← EReal.natCast_mul, ← Nat.cast_sum]
  rw [min_nat_one]
  by_cases h : ∃ k l, a k ∧ g k l ∧ b l
  · rw [if_neg, if_pos h]
    · simp
    · obtain ⟨k, l, ha, hg, hb⟩ := h
      intro hz
      have := Finset.sum_eq_zero_iff.mp hz k (Finset.mem_univ k)
      rw [if_pos ha, one_mul, Finset.sum_eq_zero_iff] at this
      have := this l (Finset.mem_univ l)
      rw [if_pos hg, if_pos hb] at this
      omega
  · rw [if_pos, if_neg h]
    · simp
    · refine Finset.sum_eq_zero fun k _ => ?_
      by_cases ha : a k
      · rw [if_pos ha, one_mul]
        refine Finset.sum_eq_zero fun l _ => ?_
        by_cases hg : g k l
        · by_cases hb : b l
          · exact absurd ⟨k, l, ha, hg, hb⟩ h
          · rw [if_neg hb, mul_zero]
        · rw [if_neg hg, zero_mul]
      · rw [if_neg ha, zero_mul]

/-! ## The packed sum -/

theorem packed_lt (d : ℕ → ℕ) (hd : ∀ k, d k ≤ 1) (n : ℕ) : ∑ k ∈ Finset.range n, d k * 2 ^ k < 2 ^ n := by
  induction n with
  | zero => simp
  | succ n ih =>
    rw [Finset.sum_range_succ, pow_succ]
    have := Nat.mul_le_mul_right (2 ^ n) (hd n)
    omega

theorem packed_testBit (d : ℕ → ℕ) (hd : ∀ k, d k ≤ 1) (n k : ℕ) (h : k < n) :
    (∑ k ∈ Finset.range n, d k * 2 ^ k).testBit k = decide (d k = 1) := by
  induction n with
  | zero => omega
  | succ n ih =>
    rw [Finset.sum_range_succ, add_comm, mul_comm, Nat.testBit_two_pow_mul_add _ (packed_lt d hd n)]
    split
    · exact ih ‹_›
    · have e : k = n := by omega
      subst e
      have := hd k
      rw [Nat.sub_self, Nat.testBit_zero]
      congr 1
      apply propext
      omega

/-- A sample's bit of the packed word tells whether it drops the position. -/
theorem packed_bit (d : ℕ → ℕ) (hd : ∀ k, d k ≤ 1) (k : ℕ) (h : k < 24) :
    (BitVec.ofNat 32 (∑ k ∈ Finset.range 24, d k * 2 ^ k) &&& BitVec.ofNat 32 (2 ^ k) = 0#32) ↔ d k = 0 := by
  have hlt := packed_lt d hd 24
  have key : BitVec.ofNat 32 (∑ k ∈ Finset.range 24, d k * 2 ^ k) &&& BitVec.ofNat 32 (2 ^ k)
      = if d k = 1 then BitVec.ofNat 32 (2 ^ k) else 0#32 := by
    apply BitVec.eq_of_getLsbD_eq
    intro i hi
    rw [BitVec.getLsbD_and, BitVec.getLsbD_ofNat, BitVec.getLsbD_ofNat, Nat.testBit_two_pow]
    by_cases e : k = i
    · subst e
      rw [packed_testBit d hd 24 k h]
      split <;> simp_all [BitVec.getLsbD_ofNat, ← BitVec.getLsbD_eq_getElem, Nat.testBit_two_pow]
    · split <;> simp [BitVec.getLsbD_ofNat, Nat.testBit_two_pow, e]
  rw [key]
  have := hd k
  split
  · constructor
    · intro hz
      have := congrArg BitVec.toNat hz
      rw [BitVec.toNat_ofNat, Nat.mod_eq_of_lt (Nat.pow_lt_pow_right (by omega) (by omega))] at this
      have h2 : 0 < 2 ^ k := Nat.two_pow_pos k
      simp at this
    · omega
  · constructor
    · omega
    · intro _; rfl

/-! ## The threshold -/

/-- For a rate from 0 up to the last value the comparison can tell from 1, the word under the shifted threshold is the
    23-bit fraction under the rate. -/
theorem threshold (γ : ℝ) (h0 : 0 ≤ γ) (h1 : γ ≤ 1 - 2 ^ (-23 : ℤ)) (u : BitVec 32) :
    u.toNat < (Ideal.fptosi 32 (((⌈γ * 2 ^ 23⌉ : ℝ)) : EReal) <<< 9).toNat
      ↔ (((u >>> 9).toInt : ℝ) * 2 ^ (-23 : ℤ)) < γ := by
  have hc0 : 0 ≤ ⌈γ * 2 ^ 23⌉ := Int.ceil_nonneg (by positivity)
  obtain ⟨c, hc⟩ := Int.eq_ofNat_of_zero_le hc0
  have hcle : c ≤ 2 ^ 23 - 1 := by
    have : ⌈γ * 2 ^ 23⌉ ≤ (2 ^ 23 - 1 : ℤ) := Int.ceil_le.mpr (by
      have : γ * 2 ^ 23 ≤ (1 - 2 ^ (-23 : ℤ)) * 2 ^ 23 := mul_le_mul_of_nonneg_right h1 (by positivity)
      refine this.trans ?_
      norm_num)
    rw [hc] at this
    norm_num at this ⊢
    omega
  have hT : (Ideal.fptosi 32 (((⌈γ * 2 ^ 23⌉ : ℝ)) : EReal) <<< 9).toNat = c * 512 := by
    rw [hc]
    have : ((((c : ℕ) : ℤ) : ℝ) : EReal) = ((c : ℕ) : EReal) := by rw [← coe_nat]; simp
    rw [this, fptosi_nat c (by omega), BitVec.toNat_shiftLeft, BitVec.toNat_ofNat, Nat.mod_eq_of_lt (a := c) (by omega), Nat.shiftLeft_eq]
    rw [Nat.mod_eq_of_lt (by omega)]
  have hu : (u >>> 9).toInt = ((u.toNat / 512 : ℕ) : ℤ) := by
    have hlt := u.isLt
    have e : (u >>> 9).toNat = u.toNat / 512 := by rw [BitVec.toNat_ushiftRight, Nat.shiftRight_eq_div_pow]
    rw [BitVec.toInt_eq_toNat_cond, e, if_pos (by omega)]
  rw [hT, hu]
  have e1 : u.toNat < c * 512 ↔ u.toNat / 512 < c := (Nat.div_lt_iff_lt_mul (by norm_num)).symm
  have e2 : u.toNat / 512 < c ↔ ((u.toNat / 512 : ℕ) : ℝ) < γ * 2 ^ 23 := by
    have key : ((u.toNat / 512 : ℕ) : ℤ) < ⌈γ * 2 ^ 23⌉ ↔ (((u.toNat / 512 : ℕ) : ℤ) : ℝ) < γ * 2 ^ 23 := Int.lt_ceil
    rw [hc, Int.cast_natCast] at key
    rw [← key]
    exact Int.ofNat_lt.symm
  rw [e1, e2, Int.cast_natCast]
  rw [show ((2 : ℝ) ^ (-23 : ℤ)) = (2 ^ 23)⁻¹ by norm_num, ← div_eq_mul_inv, div_lt_iff₀ (by positivity)]

end Cert.DropBlock
-- ==== Proof.KernelIdealMaskValue.lean ====
/- The mask kernel's body read over the extended reals: bit `k` of the packed word says whether sample `24 i + k` drops the
   position, and the count grows by the number of positions the tile's samples drop. -/
module

public import proofs.«01_k».proof.Proof.KernelIdealMaskSpec
public import proofs.«01_k».proof.Proof.DropMaths
public import Idealize.ShloMosaic.Lib.MatmulPlain
public import Idealize.ShloMosaic.Lib.ValueLayout
public import Idealize.ShloMosaic.Lib.WritesUnit

@[expose] public section

set_option maxRecDepth 16384

noncomputable section

namespace Cert.KernelIdeal.Drop

open Cert.KernelIdeal.Gen Cert.DropBlock
open Idealize.ShloMosaic Idealize.SL.Sem Idealize.ShloMosaic.ValueIdx

theorem rotXor_apply (a b : ℕ) (ha : a < 32) (hb : b < 32) (x y : IVec S224x224 32) (j : S224x224.Idx) :
    rotXor (BitVec.ofNat 32 a) (BitVec.ofNat 32 b) x y j = rotl a b (x j) ^^^ y j := by
  show (IntOp.shli .vector (x j) (BitVec.ofNat 32 a) ||| IntOp.shrui .vector (x j) (BitVec.ofNat 32 b)) ^^^ y j = _
  have ea : (BitVec.ofNat 32 a).toNat = a := by rw [BitVec.toNat_ofNat]; omega
  have eb : (BitVec.ofNat 32 b).toNat = b := by rw [BitVec.toNat_ofNat]; omega
  unfold IntOp.shli IntOp.shrui rotl
  rw [if_pos (by omega), if_pos (by omega), BitVec.shiftLeft_eq', BitVec.ushiftRight_eq', ea, eb]

theorem quad_apply (a0 b0 a1 b1 a2 b2 a3 b3 : ℕ) (h : a0 < 32 ∧ b0 < 32 ∧ a1 < 32 ∧ b1 < 32 ∧ a2 < 32 ∧ b2 < 32 ∧ a3 < 32 ∧ b3 < 32) (k0 k1 : BitVec 32)
    (x0 x1 : IVec S224x224 32) (next : IVec S224x224 32 → IVec S224x224 32 → IVec S224x224 32) (next' : BitVec 32 → BitVec 32 → BitVec 32)
    (j : S224x224.Idx) (hn : ∀ y0 y1, next y0 y1 j = next' (y0 j) (y1 j)) :
    quad (BitVec.ofNat 32 a0) (BitVec.ofNat 32 b0) (BitVec.ofNat 32 a1) (BitVec.ofNat 32 b1) (BitVec.ofNat 32 a2) (BitVec.ofNat 32 b2) (BitVec.ofNat 32 a3) (BitVec.ofNat 32 b3) k0 k1 x0 x1 next j
      = quadK a0 b0 a1 b1 a2 b2 a3 b3 k0 k1 (x0 j) (x1 j) next' := by
  obtain ⟨h0, h1, h2, h3, h4, h5, h6, h7⟩ := h
  have ea : ∀ (x y : IVec S224x224 32), addi x y j = x j + y j := fun _ _ => rfl
  have eb : ∀ w, bc w j = w := fun _ => rfl
  simp only [quad, quadK, hn, ea, eb, rotXor_apply, h0, h1, h2, h3, h4, h5, h6, h7]

theorem bitsVec_apply (x1 : IVec S224x224 32) (j : S224x224.Idx) : bitsVec x1 j = bitsK (x1 j) := by
  unfold bitsVec bitsK
  refine quad_apply 13 19 15 17 26 6 6 26 (by decide) _ _ _ _ _ _ j fun y0 y1 => ?_
  refine quad_apply 17 15 29 3 16 16 24 8 (by decide) _ _ _ _ _ _ j fun y0 y1 => ?_
  refine quad_apply 13 19 15 17 26 6 6 26 (by decide) _ _ _ _ _ _ j fun y0 y1 => ?_
  refine quad_apply 17 15 29 3 16 16 24 8 (by decide) _ _ _ _ _ _ j fun y0 y1 => ?_
  exact quad_apply 13 19 15 17 26 6 6 26 (by decide) _ _ _ _ _ _ j fun y0 y1 => rfl

theorem select_ult (a b : BitVec 32) (x y : EReal) : Scalar.select (IntOp.cmpi .ult a b) x y = if a.toNat < b.toNat then x else y := by
  unfold Scalar.select IntOp.cmpi
  by_cases h : a.toNat < b.toNat
  · rw [if_pos h, if_pos]
    simp [BitVec.ult, h]
  · rw [if_neg h, if_neg]
    simp [BitVec.ult, h]

theorem counter_word (a k l : ℕ) (z : BitVec 32) (hz : z = BitVec.ofNat 32 l) :
    IntOp.addi z (IntOp.addi (IntOp.muli (IntOp.addi (IntOp.muli (BitVec.ofNat 32 a) 24#32) (BitVec.ofNat 32 k)) 48400#32) 2545468385#32)
      = BitVec.ofNat 32 ((24 * a + k) * 48400 + l) + 2545468385#32 := by
  subst hz
  generalize 2545468385#32 = w
  show BitVec.ofNat 32 l + ((BitVec.ofNat 32 a * BitVec.ofNat 32 24 + BitVec.ofNat 32 k) * BitVec.ofNat 32 48400 + w) = _
  rw [← BitVec.ofNat_mul, ← BitVec.ofNat_add, ← BitVec.ofNat_mul, ← BitVec.add_assoc, ← BitVec.ofNat_add]
  have e : l + (a * 24 + k) * 48400 = (24 * a + k) * 48400 + l := by ring
  rw [e]

theorem window_count' {ι κ : Type} [Fintype ι] [Fintype κ] (a : ι → Prop) (g : ι → κ → Prop) (b : κ → Prop) [DecidablePred a]
    [∀ k, DecidablePred (g k)] [DecidablePred b] [Decidable (∃ k l, a k ∧ g k l ∧ b l)] :
    min (0 + ∑ k, (if a k then (1 : EReal) else 0) * (0 + ∑ l, (if g k l then (1 : EReal) else 0) * (if b l then (1 : EReal) else 0))) 1
      = if ∃ k l, a k ∧ g k l ∧ b l then 1 else 0 := by
  convert window_count a g b

attribute [local irreducible] bitsVec bitsK bitsOf

/-- A seed under the threshold word `T`. -/
def seedOf (T : BitVec 32) (s y x : ℕ) : Prop := (bitsOf (BitVec.ofNat 32 (s * 48400 + y * 220 + x))).toNat < T.toNat

theorem addf_mulf_apply (a b : FVec Ideal S224x224 .f32) (w : BitVec 32) (j : S224x224.Idx) :
    addf a (mulf b (broadcast S224x224 (Scalar.ofBits .f32 w))) j = a j + b j * Ideal.ofBits .f32 w := rfl

theorem packedUpTo_succ (i : grid0.Coords) (lin ts : Vec Ideal S224x224 .i32) (mm nn : Vec Ideal S224x224 .f32) (n : ℕ) (j : S224x224.Idx) :
    packedUpTo i lin ts mm nn (n + 1) j = packedUpTo i lin ts mm nn n j + dropVec i lin ts mm nn n j * Ideal.ofBits .f32 (BitVec.ofNat 32 (0x3F800000 + n * 0x800000)) :=
  (congrFun (packedUpTo.eq_2 i lin ts mm nn n) j).trans (addf_mulf_apply _ _ _ j)

theorem accUpTo_succ (i : grid0.Coords) (lin ts : Vec Ideal S224x224 .i32) (mm nn : Vec Ideal S224x224 .f32) (n : ℕ) (j : S224x224.Idx) :
    accUpTo i lin ts mm nn (n + 1) j = accUpTo i lin ts mm nn n j + dropVec i lin ts mm nn n j := by
  rw [accUpTo]; rfl

/-- What the mask kernel is given: positions, threshold inside the seeds' square, and the two band matrices. -/
structure TileInputs (lin ts : Vec Ideal S224x224 .i32) (mm nn : Vec Ideal S224x224 .f32) (T : BitVec 32) : Prop where
  lin_eq : ∀ y x : Fin 224, y.val < 220 → x.val < 220 → lin (ix2 y x) = BitVec.ofNat 32 (y.val * 220 + x.val)
  ts_in : ∀ y x : Fin 224, y.val < 220 → x.val < 220 → ts (ix2 y x) = T
  ts_out : ∀ y x : Fin 224, ¬ (y.val < 220 ∧ x.val < 220) → ts (ix2 y x) = 0#32
  mm_eq : ∀ k j : Fin 224, mm (ix2 k j) = if k.val ≤ j.val ∧ j.val ≤ k.val + 4 then (1 : EReal) else 0
  nn_eq : ∀ j k : Fin 224, nn (ix2 j k) = if k.val ≤ j.val ∧ j.val ≤ k.val + 4 then (1 : EReal) else 0

section Tile
variable {lin ts : Vec Ideal S224x224 .i32} {mm nn : Vec Ideal S224x224 .f32} {T : BitVec 32} (h : TileInputs lin ts mm nn T) (i : grid0.Coords)
include h

theorem counters_apply (k : ℕ) (y x : Fin 224) (hy : y.val < 220) (hx : x.val < 220) :
    counters i lin k (ix2 y x) = BitVec.ofNat 32 ((24 * (i 0).val + k) * 48400 + y.val * 220 + x.val) + 2545468385#32 := by
  exact counter_word (i 0).val k (y.val * 220 + x.val) _ (h.lin_eq y x hy hx) |>.trans (by rw [Nat.add_assoc])

open Classical in
theorem seed_apply (k : ℕ) (y x : Fin 224) :
    Scalar.select (IntOp.cmpi .ult (bitsVec (counters i lin k) (ix2 y x)) (ts (ix2 y x))) (1 : EReal) 0
      = if y.val < 220 ∧ x.val < 220 ∧ seedOf T (24 * (i 0).val + k) y.val x.val then 1 else 0 := by
  rw [bitsVec_apply, select_ult]
  by_cases hi : y.val < 220 ∧ x.val < 220
  · rw [counters_apply h i k y x hi.1 hi.2, bitsK_eq, h.ts_in y x hi.1 hi.2]
    refine if_congr ?_ rfl rfl
    exact ⟨fun e => ⟨hi.1, hi.2, e⟩, fun e => e.2.2⟩
  · rw [h.ts_out y x hi]
    have h0 : ¬ (bitsK (counters i lin k (ix2 y x))).toNat < (0#32 : BitVec 32).toNat := Nat.not_lt_zero _
    have h1 : ¬ (y.val < 220 ∧ x.val < 220 ∧ seedOf T (24 * (i 0).val + k) y.val x.val) := fun e => hi ⟨e.1, e.2.1⟩
    rw [if_neg h0, if_neg h1]

theorem dropVec_apply (k : ℕ) (Y X : Fin 224) :
    dropVec i lin ts mm nn k (ix2 Y X) = ((dropNat (seedOf T) (24 * (i 0).val + k) Y.val X.val : ℕ) : EReal) := by
  classical
  unfold dropVec
  rw [shapeCast_self, shapeCast_self]
  show min (FloatOps.matmul (DotDims.plain 224 224 224) none nn (FloatOps.matmul (DotDims.plain 224 224 224) none _ mm _) _ (ix2 Y X)) (Ideal.ofBits .f32 0x3F800000#32) = _
  rw [Ideal.matmul_plain_apply]
  simp only [Ideal.matmul_plain_apply]
  show min (Ideal.ofBits .f32 0x00000000#32 + ∑ k' : Fin 224, nn (ix2 Y k') * (Ideal.ofBits .f32 0x00000000#32 + ∑ l : Fin 224,
    Scalar.select (IntOp.cmpi .ult (bitsVec (counters i lin k) (ix2 k' l)) (ts (ix2 k' l))) (Ideal.ofBits .f32 0x3F800000#32) (Ideal.ofBits .f32 0x00000000#32) * mm (ix2 l X))) (Ideal.ofBits .f32 0x3F800000#32) = _
  simp only [Ideal.ofBits_zero_f32, Ideal.ofBits_one_f32, seed_apply h, h.mm_eq, h.nn_eq]
  rw [window_count' (fun k' : Fin 224 => k'.val ≤ Y.val ∧ Y.val ≤ k'.val + 4)
    (fun y x : Fin 224 => y.val < 220 ∧ x.val < 220 ∧ seedOf T (24 * (i 0).val + k) y.val x.val)
    (fun l : Fin 224 => l.val ≤ X.val ∧ X.val ≤ l.val + 4)]
  have ite_nat : ∀ (p q : Prop) [Decidable p] [Decidable q], (p ↔ q) → (if p then (1 : EReal) else 0) = ((if q then 1 else 0 : ℕ) : EReal) := by
    intro p q _ _ e
    by_cases hp : p
    · rw [if_pos hp, if_pos (e.mp hp)]; simp
    · rw [if_neg hp, if_neg (fun hq => hp (e.mpr hq))]; simp
  unfold dropNat
  refine ite_nat _ _ ?_
  constructor
  · rintro ⟨y, x, ha, hg, hb⟩
    exact ⟨y.val, x.val, hg.1, hg.2.1, ha.1, ha.2, hb.1, hb.2, hg.2.2⟩
  · rintro ⟨y, x, h1, h2, h3, h4, h5, h6, h7⟩
    exact ⟨⟨y, by omega⟩, ⟨x, by omega⟩, ⟨h3, h4⟩, ⟨h1, h2, h7⟩, h5, h6⟩

theorem packedUpTo_apply (n : ℕ) (hn : n ≤ 24) (Y X : Fin 224) :
    packedUpTo i lin ts mm nn n (ix2 Y X) = ((∑ k ∈ Finset.range n, dropNat (seedOf T) (24 * (i 0).val + k) Y.val X.val * 2 ^ k : ℕ) : EReal) := by
  induction n with
  | zero => show Ideal.ofBits .f32 0x00000000#32 = _; rw [Ideal.ofBits_zero_f32]; simp
  | succ n ih =>
    rw [packedUpTo_succ, ih (by omega), dropVec_apply h, ofBits_pow n (by omega), ← EReal.natCast_mul, ← Nat.cast_add, Finset.sum_range_succ]

theorem accUpTo_apply (n : ℕ) (Y X : Fin 224) :
    accUpTo i lin ts mm nn n (ix2 Y X) = ((∑ k ∈ Finset.range n, dropNat (seedOf T) (24 * (i 0).val + k) Y.val X.val : ℕ) : EReal) := by
  induction n with
  | zero => show Ideal.ofBits .f32 0x00000000#32 = _; rw [Ideal.ofBits_zero_f32]; simp
  | succ n ih =>
    rw [accUpTo_succ, ih, dropVec_apply h, ← Nat.cast_add, Finset.sum_range_succ]

end Tile

/-- The number of positions the 24 samples of tile `i` drop. -/
def tileCount (S : ℕ → ℕ → ℕ → Prop) (i : ℕ) : ℕ :=
  ∑ Y : Fin 224, ∑ X : Fin 224, ∑ k ∈ Finset.range 24, dropNat S (24 * i + k) Y.val X.val

theorem tileCount_le (S : ℕ → ℕ → ℕ → Prop) (i : ℕ) : tileCount S i ≤ 1204224 := by
  unfold tileCount
  calc _ ≤ ∑ Y : Fin 224, ∑ X : Fin 224, 24 := Finset.sum_le_sum fun Y _ => Finset.sum_le_sum fun X _ => by
        calc _ ≤ ∑ k ∈ Finset.range 24, 1 := Finset.sum_le_sum fun k _ => dropNat_le S _ _ _
          _ = 24 := by simp
    _ = 1204224 := by simp

theorem tileSum_apply (v : FVec Ideal S224x224 .f32) : tileSum v = ∑ Y : Fin 224, ∑ X : Fin 224, v (ix2 Y X) := by
  unfold tileSum
  show shapeCast S1x1x1 (multiReduction .add [1, 2] S1 _ _ _ _ _) _ _ = _
  show multiReduction .add [1, 2] S1 (shapeCast S1x224x224 v shapeCasts_S224x224_S1x224x224) 0x00000000#32 reduces_S1x224x224_S1 (.inl rfl) rfl _ = _
  refine (Ideal.multiReduction_add_total _ _ _ (fun b => by revert b; decide) _ _ _).trans ?_
  rw [← sum_idx2]
  exact Equiv.sum_comp (Shape.reshapeEquiv _) v

section Body
variable (c : Dev nD) (i : grid0.Coords) (arg1 : Memref sig .tc .vmem S224x224 .i32) (harg1 : arg1.IsWhole) (arg2 : Memref sig .tc .vmem S224x224 .i32) (harg2 : arg2.IsWhole)
    (arg3 : Memref sig .tc .vmem S224x224 .f32) (harg3 : arg3.IsWhole) (arg4 : Memref sig .tc .vmem S224x224 .f32) (harg4 : arg4.IsWhole)
    (arg5 : Memref sig .tc .vmem S1x224x224 .i32) (harg5 : arg5.IsWhole) (arg6 : Memref sig .tc .smem S1x1 .i32) (harg6 : arg6.IsWhole)
    (x0 : Vec Ideal S224x224 .i32) (x1 : Vec Ideal S224x224 .i32) (x2 : Vec Ideal S224x224 .f32) (x3 : Vec Ideal S224x224 .f32) (xo : Vec Ideal S1x1 .i32) {T : BitVec 32}

theorem rd2_eq {e : EltTy} (arg : Memref sig .tc .vmem S224x224 e) (h : arg.IsWhole) (x : Vec Ideal S224x224 e) : rd2 arg h x = x := by
  funext y
  refine (h.readAt_unread x (Rect.unit (s := S224x224) ![0, 0] S224x224.size inb_S224x224_S224x224_0_0).toLoadRect y).trans (congrArg x (funext fun a => Fin.ext ?_))
  match a with
  | ⟨0, _⟩ => show 0 + 1 * (y 0).val = (y 0).val; omega
  | ⟨1, _⟩ => show 0 + 1 * (y 1).val = (y 1).val; omega

/-- The packed mask the body leaves. -/
theorem maskPacked_apply (h : TileInputs x0 x1 x2 x3 T) (Y X : Fin 224) :
    maskPacked c i arg1 harg1 arg2 harg2 arg3 harg3 arg4 harg4 arg5 harg5 arg6 harg6 x0 x1 x2 x3 xo (ix3 0 Y X)
      = BitVec.ofNat 32 (∑ k ∈ Finset.range 24, dropNat (seedOf T) (24 * (i 0).val + k) Y.val X.val * 2 ^ k) := by
  unfold maskPacked
  rw [packed_pieces_eq, rd2_eq, rd2_eq, rd2_eq, rd2_eq]
  refine (View.read_writes_cons_hit_of_coords VO0_4 _ (Rect.unit (s := S1x224x224) ![0, 0, 0] S1x224x224.size inb_S1x224x224_S1x224x224_0_0_0) _ [] (ix3 0 Y X) (ix3 0 Y X) ?_).trans ?_
  · intro a
    match a with
    | ⟨0, _⟩ => rfl
    | ⟨1, _⟩ => show Y.val = 0 + 1 * Y.val; omega
    | ⟨2, _⟩ => show X.val = 0 + 1 * X.val; omega
  refine (shapeCast_ab_1ab_apply _ _ _ _ _).trans ?_
  show Ideal.fptosi 32 (packedUpTo i x0 x1 x2 x3 24 (ix2 Y X)) = _
  rw [packedUpTo_apply h i 24 (Nat.le_refl 24), fptosi_nat]
  exact lt_trans (packed_lt _ (fun k => dropNat_le _ _ _ _) 24) (by norm_num)

/-- The count the body leaves. -/
theorem maskCount_apply (h : TileInputs x0 x1 x2 x3 T) :
    maskCount c i arg1 harg1 arg2 harg2 arg3 harg3 arg4 harg4 arg5 harg5 arg6 harg6 x0 x1 x2 x3 xo (ix2 0 0)
      = (if (i 0).val = 0 then 0#32 else xo (ix2 0 0)) + BitVec.ofNat 32 (tileCount (seedOf T) (i 0).val) := by
  unfold maskCount
  rw [count_pieces_eq, rd2_eq, rd2_eq, rd2_eq, rd2_eq]
  refine (View.read_writes_cons_hit_of_coords VO0_5 _ (Rect.unit (s := S1x1) ![0, 0] S1x1.size inb_S1x1_S1x1_0_0) _ [] (ix2 0 0) (ix2 0 0) ?_).trans ?_
  · intro a
    match a with
    | ⟨0, _⟩ => rfl
    | ⟨1, _⟩ => rfl
  have e0 : View.readAt (Elt Ideal) arg6.view (Rect.unit (s := S1x1) ![0, 0] S1x1.size inb_S1x1_S1x1_0_0).toLoadRect (harg6.unread xo) (Shape.Idx.first (numel1_S1x1.symm ▸ Nat.one_pos)) = xo (ix2 0 0) := by
    rw [harg6.readAt_unread]
    exact congrArg xo (funext fun a => Fin.ext (match a with
      | ⟨0, _⟩ => by have h := ((Rect.unit (s := S1x1) ![0, 0] S1x1.size inb_S1x1_S1x1_0_0).toLoadRect.idx (Shape.Idx.first (numel1_S1x1.symm ▸ Nat.one_pos)) 0).isLt; exact Nat.lt_one_iff.mp h
      | ⟨1, _⟩ => by have h := ((Rect.unit (s := S1x1) ![0, 0] S1x1.size inb_S1x1_S1x1_0_0).toLoadRect.idx (Shape.Idx.first (numel1_S1x1.symm ▸ Nat.one_pos)) 1).isLt; exact Nat.lt_one_iff.mp h))
  show Scalar.select (IntOp.cmpi .eq (BitVec.ofNat 32 (i 0).val) 0#32) 0#32 (View.readAt (Elt Ideal) arg6.view (Rect.unit (s := S1x1) ![0, 0] S1x1.size inb_S1x1_S1x1_0_0).toLoadRect (harg6.unread xo) (Shape.Idx.first (numel1_S1x1.symm ▸ Nat.one_pos))) + Ideal.fptosi 32 (tileSum (accUpTo i x0 x1 x2 x3 24)) = _
  rw [e0]
  show Scalar.select (IntOp.cmpi .eq (BitVec.ofNat 32 (i 0).val) 0#32) 0#32 (xo (ix2 0 0)) + Ideal.fptosi 32 (tileSum (accUpTo i x0 x1 x2 x3 24)) = _
  have e1 : tileSum (accUpTo i x0 x1 x2 x3 24) = ((tileCount (seedOf T) (i 0).val : ℕ) : EReal) := by
    rw [tileSum_apply]
    simp only [accUpTo_apply h i, ← Nat.cast_sum]
    rfl
  rw [e1, fptosi_nat _ (lt_of_le_of_lt (tileCount_le _ _) (by norm_num))]
  congr 1
  have hi : (i 0).val < 64 := (i 0).isLt
  unfold Scalar.select IntOp.cmpi
  by_cases hz : (i 0).val = 0
  · rw [if_pos hz, hz]; rfl
  · rw [if_neg hz, if_neg]
    intro e
    have : (BitVec.ofNat 32 (i 0).val == 0#32) = true := by
      revert e; cases (BitVec.ofNat 32 (i 0).val == 0#32) <;> simp
    have := congrArg BitVec.toNat (eq_of_beq this)
    rw [BitVec.toNat_ofNat, Nat.mod_eq_of_lt (by omega)] at this
    exact hz this

end Body

end Cert.KernelIdeal.Drop
-- ==== Proof.KernelIdealHost.lean ====
/- What the host leaves in the buffers the kernel's two calls read: the positions, the thresholds, the two band matrices and
   the input with its samples in one row. -/
module

public import proofs.«01_k».proof.Proof.KernelIdealTables
public import proofs.«01_k».proof.Proof.KernelIdealMaskValue
public import Idealize.ShloMosaic.Lib.StableHlo.RunHlo

@[expose] public section

set_option maxRecDepth 16384

noncomputable section

namespace Cert.KernelIdeal.Drop

open Cert.KernelIdeal Cert.KernelIdeal.Gen Cert.DropBlock
open Idealize.ShloMosaic Idealize.SL.Sem Idealize.ShloMosaic.ValueIdx Idealize.ShloMosaic.StableHlo
open Idealize.ShloMosaic.TcCoe Idealize.ShloMosaic.Tactic

variable (m : (ℓ : Loc nD τ sig) → Buf (Elt Ideal) ℓ) (ρ : Dev nD → PrngReg) (c : Dev nD)

theorem W1_main_c : W1 m ρ c (Proc.devRef .tc main_c) = fun i => lit0 (S224x224.rowMajor i) := by
  show after hostOps0 _ _ = _
  after_results
  rfl
theorem W1_main_c_0 : W1 m ρ c (Proc.devRef .tc main_c_0) = fun i => lit1 (S224x224.rowMajor i) := by
  show after hostOps0 _ _ = _
  after_results
  rfl
theorem W1_main_cst : W1 m ρ c (Proc.devRef .tc main_cst) = fun i => Ideal.ofBits .f32 (lit2 (S224x224.rowMajor i)) := by
  show after hostOps0 _ _ = _
  after_results
  rfl
theorem W1_main_v0 : W1 m ρ c (Proc.devRef .tc main_v0) = shapeCast S1536x224x224 (m ((c : Thread nD τ).loc main_arg0)) shapeCasts_S8x192x224x224_S1536x224x224 := by
  show after hostOps0 _ _ = _
  after_results
  rfl
theorem W1_main_v5 : W1 m ρ c (Proc.devRef .tc main_v5) = Host.shli (fptosi 32 (Host.ceil (mulf (F := Ideal) (s := S_) (φ := .f32) (m ((c : Thread nD τ).loc main_arg1)) (constant S_ .f32 0x4B000000#32)))) (constantI S_ 32 9#32) := by
  show after hostOps0 _ _ = _
  after_results
  rfl
theorem W1_main_c_3 : W1 m ρ c (Proc.devRef .tc main_c_3) = constantI S_ 32 0#32 := by
  show after hostOps0 _ _ = _
  after_results
theorem W2_main_v6 : W2 m ρ c (Proc.devRef .tc main_v6) = select (W1 m ρ c (Proc.devRef .tc main_c_0)) (broadcastInDim S224x224 ![] bcast_S_S224x224 (W1 m ρ c (Proc.devRef .tc main_v5))) (broadcastInDim S224x224 ![] bcast_S_S224x224 (W1 m ρ c (Proc.devRef .tc main_c_3))) := by
  show after hostOps0_1 _ _ = _
  after_results
  rfl
theorem W3_main_v7 : W3 m ρ c (Proc.devRef .tc main_v7) = transpose S224x224 [1, 0] (W2 m ρ c (Proc.devRef .tc main_cst)) transposes_S224x224_S224x224_1_0 := by
  show after hostOps0_2 _ _ = _
  after_results

/-- The drop probability. -/
def gammaOf : EReal := m ((c : Thread nD τ).loc main_arg1) ix0

/-- The threshold word the host makes of the drop probability. -/
def thrWord : BitVec 32 :=
  IntOp.shli .host (Ideal.fptosi 32 (Ideal.liftRound Int.ceil (gammaOf m c * Ideal.ofBits .f32 0x4B000000#32))) 9#32

theorem V3_main_c (y x : Fin 224) (hy : y.val < 220) (hx : x.val < 220) : V3 m ρ c main_c (ix2 y x) = BitVec.ofNat 32 (y.val * 220 + x.val) := by
  have e : V3 m ρ c main_c = _ := (W3_of m ρ c main_c (by decide)).trans ((W2_of m ρ c main_c (by decide)).trans (W1_main_c m ρ c))
  rw [e]
  refine Eq.trans ?_ (lit0_at ⟨y.val, hy⟩ ⟨x.val, hx⟩)
  exact congrArg lit0 (Fin.ext (Shape.rowMajor_val_two (ix2 y x)))

theorem W2_main_cst (k j : Fin 224) : W2 m ρ c (Proc.devRef .tc main_cst) (ix2 k j) = if k.val ≤ j.val ∧ j.val ≤ k.val + 4 then (1 : EReal) else 0 := by
  rw [W2_of m ρ c main_cst (by decide), W1_main_cst]
  refine (congrArg (Ideal.ofBits .f32) ((congrArg lit2 (Fin.ext (Shape.rowMajor_val_two (ix2 k j)))).trans (lit2_at k j))).trans ?_
  split
  · exact Ideal.ofBits_one_f32
  · exact Ideal.ofBits_zero_f32

theorem V3_main_cst (k j : Fin 224) : V3 m ρ c main_cst (ix2 k j) = if k.val ≤ j.val ∧ j.val ≤ k.val + 4 then (1 : EReal) else 0 :=
  (congrFun (W3_of m ρ c main_cst (by decide)) (ix2 k j)).trans (W2_main_cst m ρ c k j)

theorem V3_main_v7 (j k : Fin 224) : V3 m ρ c main_v7 (ix2 j k) = if k.val ≤ j.val ∧ j.val ≤ k.val + 4 then (1 : EReal) else 0 :=
  (congrFun (W3_main_v7 m ρ c) (ix2 j k)).trans ((transpose_ix2_apply _ _ j k).trans (W2_main_cst m ρ c k j))

theorem V3_main_v6 (y x : Fin 224) : V3 m ρ c main_v6 (ix2 y x) = if y.val < 220 ∧ x.val < 220 then thrWord m c else 0#32 := by
  have e : V3 m ρ c main_v6 = _ := (W3_of m ρ c main_v6 (by decide)).trans (W2_main_v6 m ρ c)
  rw [e]
  show Scalar.select (W1 m ρ c (Proc.devRef .tc main_c_0) (ix2 y x)) (broadcastInDim S224x224 ![] bcast_S_S224x224 (W1 m ρ c (Proc.devRef .tc main_v5)) (ix2 y x)) (broadcastInDim S224x224 ![] bcast_S_S224x224 (W1 m ρ c (Proc.devRef .tc main_c_3)) (ix2 y x)) = _
  have e0 : W1 m ρ c (Proc.devRef .tc main_c_0) (ix2 y x) = BitVec.ofBool (decide (y.val < 220 ∧ x.val < 220)) := by
    rw [W1_main_c_0]
    exact (congrArg lit1 (Fin.ext (Shape.rowMajor_val_two (ix2 y x)))).trans (lit1_at y x)
  rw [broadcastInDim_scalar_apply, broadcastInDim_scalar_apply, e0, W1_main_v5, W1_main_c_3]
  unfold Scalar.select
  by_cases h : y.val < 220 ∧ x.val < 220
  · rw [if_pos h, if_pos (by rw [decide_eq_true h]; rfl)]; rfl
  · rw [if_neg h, if_neg (by rw [decide_eq_false h]; decide)]; rfl

theorem V4_main_v0 : W3 m ρ c (Proc.devRef .tc main_v0) = shapeCast S1536x224x224 (m ((c : Thread nD τ).loc main_arg0)) shapeCasts_S8x192x224x224_S1536x224x224 :=
  (W3_of m ρ c main_v0 (by decide)).trans ((W2_of m ρ c main_v0 (by decide)).trans (W1_main_v0 m ρ c))

end Cert.KernelIdeal.Drop
-- ==== Proof.KernelIdealApplySpec.lean ====
/- What the scaling kernel's body leaves in its output block: each of the 48 samples times the scale where its bit of the
   packed mask is clear, zero elsewhere. -/
module

public import proofs.«01_k».proof.Proof.KernelIdealRun
public import Idealize.ShloMosaic.Lib.WholeRead
public import Idealize.ShloMosaic.Lib.WritesUnit
public import Idealize.ShloMosaic.Lib.ValueLayout

@[expose] public section

set_option maxRecDepth 16384

noncomputable section

namespace Cert.KernelIdeal.Drop

open Cert.KernelIdeal.Gen
open Idealize.ShloMosaic Idealize.SL.Sem Idealize.ShloMosaic.ValueIdx

variable {F : FTy → Type} [FloatOps F]

/-- Where sample `s` of the block is stored and read. -/
def sampleOff (s : Fin 48) : Fin 3 → ℕ := ![s.val, 0, 0]
theorem sampleOff_inb (s : Fin 48) : ∀ a, sampleOff s a + S1x224x224.size a ≤ S48x224x224.size a :=
  fun a => match a with
    | ⟨0, _⟩ => Nat.succ_le_of_lt s.isLt
    | ⟨1, _⟩ => Nat.le_refl 224
    | ⟨2, _⟩ => Nat.le_refl 224

/-- Where the packed plane of sample `s` is read. -/
def planeOff (s : Fin 48) : Fin 3 → ℕ := ![s.val / 24, 0, 0]
theorem planeOff_inb (s : Fin 48) : ∀ a, planeOff s a + S1x224x224.size a ≤ S2x224x224.size a :=
  fun a => match a with
    | ⟨0, _⟩ => Nat.succ_le_of_lt (Nat.div_lt_of_lt_mul s.isLt)
    | ⟨1, _⟩ => Nat.le_refl 224
    | ⟨2, _⟩ => Nat.le_refl 224

/-- The scale from the number of dropped positions. -/
def scaleOf (n : BitVec 32) : F .f32 :=
  Scalar.divf (Scalar.ofBits .f32 0x4C930000#32) (Scalar.subf (Scalar.ofBits .f32 0x4C930000#32) (Scalar.sitofp .f32 n))

section Pieces
variable (c : Dev nD) (i : grid1.Coords) (arg1 : Memref sig .tc .smem S1x1 .i32) (harg1 : arg1.IsWhole) (arg2 : Memref sig .tc .vmem S48x224x224 .f32) (harg2 : arg2.IsWhole)
    (arg3 : Memref sig .tc .vmem S2x224x224 .i32) (harg3 : arg3.IsWhole) (arg4 : Memref sig .tc .vmem S48x224x224 .f32) (harg4 : arg4.IsWhole)
    (x0 : Vec F S1x1 .i32) (x1 : Vec F S48x224x224 .f32) (x2 : Vec F S2x224x224 .i32)

/-- What is stored for sample `s`. -/
def samplePay (s : Fin 48) : FVec F S1x224x224 .f32 :=
  shapeCast S1x224x224
    (select (cmpi .eq (andi (shapeCast S224x224 (View.readAt (Elt F) arg3.view (Rect.unit (s := S2x224x224) (planeOff s) S1x224x224.size (planeOff_inb s)).toLoadRect (harg3.unread x2)) shapeCasts_S1x224x224_S224x224)
        (broadcast S224x224 (BitVec.ofNat 32 (2 ^ (s.val % 24))))) (broadcast S224x224 0#32))
      (mulf (shapeCast S224x224 (View.readAt (Elt F) arg2.view (Rect.unit (s := S48x224x224) (sampleOff s) S1x224x224.size (sampleOff_inb s)).toLoadRect (harg2.unread x1)) shapeCasts_S1x224x224_S224x224)
        (broadcast S224x224 (scaleOf (View.readAt (Elt F) arg1.view (Rect.unit (s := S1x1) ![0, 0] S1x1.size inb_S1x1_S1x1_0_0).toLoadRect (harg1.unread x0) (Shape.Idx.first (numel1_S1x1.symm ▸ Nat.one_pos))))))
      (broadcast S224x224 (Scalar.ofBits .f32 0x00000000#32))) shapeCasts_S224x224_S1x224x224

theorem apply_pieces_eq : (applyRun c i arg1 harg1 arg2 harg2 arg3 harg3 arg4 harg4 x0 x1 x2).1
    = View.tilePieces (s := S48x224x224) S1x224x224.size sampleOff sampleOff_inb (samplePay arg1 harg1 arg2 harg2 arg3 harg3 x0 x1 x2) 48 (Nat.le_refl 48) := by
  sl_kernel_rfl

/-- The output block at sample `s`, row `y`, column `x`. -/
theorem applyOut_apply (s : Fin 48) (y x : Fin 224) :
    applyOut c i arg1 harg1 arg2 harg2 arg3 harg3 arg4 harg4 x0 x1 x2 (ix3 s y x)
      = Scalar.select (IntOp.cmpi .eq (IntOp.andi (x2 (ix3 (⟨s.val / 24, Nat.div_lt_of_lt_mul s.isLt⟩ : Fin 2) y x)) (BitVec.ofNat 32 (2 ^ (s.val % 24)))) 0#32)
          (FloatOps.mulf (x1 (ix3 s y x)) (scaleOf (x0 (ix2 0 0)))) (Scalar.ofBits .f32 0x00000000#32) := by
  unfold applyOut
  rw [apply_pieces_eq]
  rw [View.read_tilePieces VO1_3 _ S1x224x224.size sampleOff sampleOff_inb _ 48 (Nat.le_refl 48) (ix3 s y x) s s.isLt (ix3 0 y x)
    (fun a => match a with
      | ⟨0, _⟩ => rfl
      | ⟨1, _⟩ => (Nat.zero_add _).symm
      | ⟨2, _⟩ => (Nat.zero_add _).symm) 0
    (fun i' hi' => by
      have : i'.val ≠ s.val := fun h => hi' (Fin.ext h)
      show s.val < i'.val ∨ i'.val + 1 ≤ s.val
      omega)]
  unfold samplePay
  rw [shapeCast_ab_1ab_apply]
  show Scalar.select (IntOp.cmpi .eq (IntOp.andi (shapeCast S224x224 _ _ (ix2 y x)) _) _) (FloatOps.mulf (shapeCast S224x224 _ _ (ix2 y x)) _) _ = _
  rw [shapeCast_1ab_ab_apply, shapeCast_1ab_ab_apply, harg3.readAt_unread, harg2.readAt_unread]
  have e0 : View.readAt (Elt F) arg1.view (Rect.unit (s := S1x1) ![0, 0] S1x1.size inb_S1x1_S1x1_0_0).toLoadRect (harg1.unread x0) (Shape.Idx.first (numel1_S1x1.symm ▸ Nat.one_pos)) = x0 (ix2 0 0) := by
    rw [harg1.readAt_unread]
    exact congrArg x0 (funext fun a => Fin.ext (match a with
      | ⟨0, _⟩ => by have h := ((Rect.unit (s := S1x1) ![0, 0] S1x1.size inb_S1x1_S1x1_0_0).toLoadRect.idx (Shape.Idx.first (numel1_S1x1.symm ▸ Nat.one_pos)) 0).isLt; exact Nat.lt_one_iff.mp h
      | ⟨1, _⟩ => by have h := ((Rect.unit (s := S1x1) ![0, 0] S1x1.size inb_S1x1_S1x1_0_0).toLoadRect.idx (Shape.Idx.first (numel1_S1x1.symm ▸ Nat.one_pos)) 1).isLt; exact Nat.lt_one_iff.mp h))
  have e3 : (Rect.unit (s := S2x224x224) (planeOff s) S1x224x224.size (planeOff_inb s)).toLoadRect.idx (ix3 0 y x) = ix3 (⟨s.val / 24, Nat.div_lt_of_lt_mul s.isLt⟩ : Fin 2) y x :=
    funext fun a => Fin.ext (match a with
      | ⟨0, _⟩ => by show s.val / 24 + 1 * 0 = s.val / 24; omega
      | ⟨1, _⟩ => by show 0 + 1 * y.val = y.val; omega
      | ⟨2, _⟩ => by show 0 + 1 * x.val = x.val; omega)
  have e2 : (Rect.unit (s := S48x224x224) (sampleOff s) S1x224x224.size (sampleOff_inb s)).toLoadRect.idx (ix3 0 y x) = ix3 s y x :=
    funext fun a => Fin.ext (match a with
      | ⟨0, _⟩ => by show s.val + 1 * 0 = s.val; omega
      | ⟨1, _⟩ => by show 0 + 1 * y.val = y.val; omega
      | ⟨2, _⟩ => by show 0 + 1 * x.val = x.val; omega)
  show Scalar.select _ (FloatOps.mulf _ (scaleOf (View.readAt (Elt F) arg1.view _ _ _))) _ = _
  rw [e0, e2, e3]
  rfl

end Pieces

end Cert.KernelIdeal.Drop
-- ==== Proof.KernelIdealValue.lean ====
/- The kernel's result over the extended reals: an element is 0 where its sample drops it and else the input scaled by the
   total over the number of elements kept. -/
module

public import proofs.«01_k».proof.Proof.KernelIdealHost
public import proofs.«01_k».proof.Proof.KernelIdealApplySpec
public import Idealize.ShloMosaic.Lib.Pipeline.ValueKit

@[expose] public section

set_option maxRecDepth 16384

noncomputable section

namespace Cert.KernelIdeal.Drop

open Cert.KernelIdeal Cert.KernelIdeal.Gen Cert.DropBlock
open Idealize.ShloMosaic hiding ix0 ix1 ix2 ix3 ix4
open Idealize.SL.Sem Idealize.ShloMosaic.ValueIdx Idealize.ShloMosaic.StableHlo
open Idealize.ShloMosaic.TcCoe Idealize.ShloMosaic.Tactic
open Idealize.ShloMosaic.Pipeline (Dat Cfg Window)

variable (m : (ℓ : Loc nD τ sig) → Buf (Elt Ideal) ℓ) (ρ : Dev nD → PrngReg) (c : Dev nD)

/-! ## The mask call -/

theorem idx0 : ∀ t : Fin cfg0.N, win0_0.index t = ![0, 0] ∧ win0_1.index t = ![0, 0] ∧ win0_2.index t = ![0, 0] ∧ win0_3.index t = ![0, 0]
    ∧ win0_4.index t = ![t.val, 0, 0] ∧ win0_5.index t = ![0, 0] :=
  (by decide +kernel : ∀ t : Fin grid0.N, _)

theorem block0_0 (t : Fin cfg0.N) : iblk0 (V3 m ρ) c 0 t = V3 m ρ c main_c := by
  blk_ext! [iblk0, idx0 t]
theorem block0_1 (t : Fin cfg0.N) : iblk0 (V3 m ρ) c 1 t = V3 m ρ c main_v6 := by
  blk_ext! [iblk0, idx0 t]
theorem block0_2 (t : Fin cfg0.N) : iblk0 (V3 m ρ) c 2 t = V3 m ρ c main_cst := by
  blk_ext! [iblk0, idx0 t]
theorem block0_3 (t : Fin cfg0.N) : iblk0 (V3 m ρ) c 3 t = V3 m ρ c main_v7 := by
  blk_ext! [iblk0, idx0 t]

theorem inputs0 (t : Fin cfg0.N) : TileInputs (iblk0 (V3 m ρ) c 0 t) (iblk0 (V3 m ρ) c 1 t) (iblk0 (V3 m ρ) c 2 t) (iblk0 (V3 m ρ) c 3 t) (thrWord m c) := by
  rw [block0_0, block0_1, block0_2, block0_3]
  exact {
    lin_eq := V3_main_c m ρ c
    ts_in := fun y x hy hx => (V3_main_v6 m ρ c y x).trans (if_pos ⟨hy, hx⟩)
    ts_out := fun y x h => (V3_main_v6 m ρ c y x).trans (if_neg h)
    mm_eq := V3_main_cst m ρ c
    nn_eq := V3_main_v7 m ρ c }

theorem coords0_val (t : Fin cfg0.N) : (grid0.coords t 0).val = t.val := by
  have hN : t.val < 64 := lt_of_lt_of_eq t.isLt (show cfg0.N = 64 from N_0)
  have e0 : (grid0.coords t 0).val = t.val / 1 % 64 := Pipeline.Grid.coords_val t 0 (by decide) rfl
  rw [e0]; omega

/-- The seeds of the launch. -/
abbrev seedsOf : ℕ → ℕ → ℕ → Prop := seedOf (thrWord m c)

/-- The packed word of plane `i` at a position. -/
def packedWord (i Y X : ℕ) : BitVec 32 := BitVec.ofNat 32 (∑ k ∈ Finset.range 24, dropNat (seedsOf m c) (24 * i + k) Y X * 2 ^ k)

theorem maskOut_packed (t : Fin cfg0.N) (xo) (Y X : Fin 224) :
    (maskOut c (grid0.coords t) (ms0_0 t) (hs0_0 t) (ms0_1 t) (hs0_1 t) (ms0_2 t) (hs0_2 t) (ms0_3 t) (hs0_3 t) (ms0_4 t) (hs0_4 t) (ms0_5 t) (hs0_5 t)
      (iblk0 (V3 m ρ) c 0 t) (iblk0 (V3 m ρ) c 1 t) (iblk0 (V3 m ρ) c 2 t) (iblk0 (V3 m ρ) c 3 t) xo).1 (ix3 0 Y X) = packedWord m c t.val Y.val X.val := by
  unfold maskOut packedWord
  dsimp only
  rw [maskPacked_apply (h := inputs0 m ρ c t), coords0_val]

theorem maskOut_count (t : Fin cfg0.N) (xo) :
    (maskOut c (grid0.coords t) (ms0_0 t) (hs0_0 t) (ms0_1 t) (hs0_1 t) (ms0_2 t) (hs0_2 t) (ms0_3 t) (hs0_3 t) (ms0_4 t) (hs0_4 t) (ms0_5 t) (hs0_5 t)
      (iblk0 (V3 m ρ) c 0 t) (iblk0 (V3 m ρ) c 1 t) (iblk0 (V3 m ρ) c 2 t) (iblk0 (V3 m ρ) c 3 t) xo).2 (ix2 0 0)
      = (if t.val = 0 then 0#32 else xo (ix2 0 0)) + BitVec.ofNat 32 (tileCount (seedsOf m c) t.val) := by
  unfold maskOut
  dsimp only
  rw [maskCount_apply (h := inputs0 m ρ c t), coords0_val]

theorem outs0_packed (n : ℕ) (hn : n < cfg0.N) (Y X : Fin 224) : (outsAt0 (V3 m ρ) c n hn).1 (ix3 0 Y X) = packedWord m c n Y.val X.val := by
  cases n with
  | zero => rw [outsAt0]; exact maskOut_packed m ρ c ⟨0, hn⟩ _ Y X
  | succ n => rw [outsAt0]; exact maskOut_packed m ρ c ⟨n + 1, hn⟩ _ Y X

theorem outs0_count (n : ℕ) (hn : n < cfg0.N) : (outsAt0 (V3 m ρ) c n hn).2 (ix2 0 0) = BitVec.ofNat 32 (∑ i ∈ Finset.range (n + 1), tileCount (seedsOf m c) i) := by
  induction n with
  | zero =>
    rw [outsAt0]
    refine (maskOut_count m ρ c ⟨0, hn⟩ _).trans ?_
    rw [if_pos rfl, Finset.sum_range_one, BitVec.zero_add]
  | succ n ih =>
    rw [outsAt0]
    refine (maskOut_count m ρ c ⟨n + 1, hn⟩ _).trans ?_
    rw [if_neg (Nat.succ_ne_zero n), ih, ← BitVec.ofNat_add, ← Finset.sum_range_succ]

theorem W4_main_v8_0 : W4 m ρ c (Proc.devRef .tc main_v8_0) = fun i : S64x224x224.Idx => packedWord m c (i 0).val (i 1).val (i 2).val := by
  refine (W4_arr m ρ c 4).trans ?_
  refine (dat0 (V3 m ρ) c).arrAt_eq_of_covers 4 _ (by decide +kernel) fun t hf y => ?_
  blk_simp
  rw [after0_4]
  have hy : (y : S1x224x224.Idx) = ix3 0 (y 1) (y 2) := by
    have h0 : ((y : S1x224x224.Idx) 0).val < 1 := ((y : S1x224x224.Idx) 0).isLt
    funext a
    match a with
    | ⟨0, _⟩ => exact Fin.ext (by show ((y : S1x224x224.Idx) 0).val = 0; omega)
    | ⟨1, _⟩ => rfl
    | ⟨2, _⟩ => rfl
  refine (congrArg (outsAt0 (V3 m ρ) c t.val t.isLt).1 hy).trans ((outs0_packed m ρ c t.val t.isLt (y 1) (y 2)).trans ?_)
  rw [(idx0 t).2.2.2.2.1]
  show packedWord m c t.val ((y : S1x224x224.Idx) 1).val ((y : S1x224x224.Idx) 2).val = packedWord m c t.val (0 * 224 + ((y : S1x224x224.Idx) 1).val) (0 * 224 + ((y : S1x224x224.Idx) 2).val)
  rw [Nat.zero_mul, Nat.zero_add, Nat.zero_add]

/-- How many elements are dropped. -/
def total (S : ℕ → ℕ → ℕ → Prop) : ℕ := ∑ i ∈ Finset.range 64, tileCount S i

theorem total_le (S : ℕ → ℕ → ℕ → Prop) : total S ≤ 77070336 := by
  calc total S ≤ ∑ i ∈ Finset.range 64, 1204224 := Finset.sum_le_sum fun i _ => tileCount_le S i
    _ = 77070336 := by simp

theorem W4_main_v8_1 : W4 m ρ c (Proc.devRef .tc main_v8_1) = fun _ : S1x1.Idx => BitVec.ofNat 32 (total (seedsOf m c)) := by
  refine (W4_arr m ρ c 5).trans ?_
  refine (dat0 (V3 m ρ) c).arrAt_eq_of_after_last 5 ⟨63, by decide +kernel⟩ (by decide +kernel) _ fun j => ?_
  blk_simp
  refine (congrFun (after0_5 (V3 m ρ) c ⟨63, by decide +kernel⟩) _).trans ?_
  refine Eq.trans ?_ (outs0_count m ρ c 63 (by decide +kernel))
  refine congrArg _ (funext fun a => Fin.ext ?_)
  match a with
  | ⟨0, _⟩ => have h : (j 0).val < 1 := (j 0).isLt; show (j 0).val = 0; omega
  | ⟨1, _⟩ => have h : (j 1).val < 1 := (j 1).isLt; show (j 1).val = 0; omega

/-! ## The scaling call -/

theorem idx1 : ∀ t : Fin cfg1.N, win1_0.index t = ![0, 0] ∧ win1_1.index t = ![t.val, 0, 0] ∧ win1_2.index t = ![t.val, 0, 0] ∧ win1_3.index t = ![t.val, 0, 0] :=
  (by decide +kernel : ∀ t : Fin grid1.N, _)

theorem lt1 (t : Fin cfg1.N) : t.val < 32 := lt_of_lt_of_eq t.isLt (show cfg1.N = 32 from N_1)

theorem block1_0 (t : Fin cfg1.N) : iblk1 (V4 m ρ) c 0 t = V4 m ρ c main_v8_1 := by
  blk_ext! [iblk1, idx1 t]

theorem block1_1 (t : Fin cfg1.N) (s : Fin 48) (Y X : Fin 224) :
    iblk1 (V4 m ρ) c 1 t (ix3 s Y X) = V4 m ρ c main_v0 (ix3 (⟨48 * t.val + s.val, by have := lt1 t; omega⟩ : Fin 1536) Y X) := by
  unfold iblk1
  blk_simp
  refine congrArg (V4 m ρ c main_v0) ?_
  blk_ext [idx1 t]
  show t.val * 48 + s.val = 48 * t.val + s.val
  omega

theorem block1_2 (t : Fin cfg1.N) (p : Fin 2) (Y X : Fin 224) :
    iblk1 (V4 m ρ) c 2 t (ix3 p Y X) = V4 m ρ c main_v8_0 (ix3 (⟨2 * t.val + p.val, by have := lt1 t; omega⟩ : Fin 64) Y X) := by
  unfold iblk1
  blk_simp
  refine congrArg (V4 m ρ c main_v8_0) ?_
  blk_ext [idx1 t]
  show t.val * 2 + p.val = 2 * t.val + p.val
  omega

/-- An element of the result from the input's: 0 where dropped, else scaled. -/
def outVal (S : ℕ → ℕ → ℕ → Prop) (s Y X : ℕ) (x : EReal) : EReal :=
  if dropNat S s Y X = 0 then x * Ideal.div ((77070336 : ℕ) : EReal) (((77070336 : ℕ) : EReal) - ((total S : ℕ) : EReal)) else 0

theorem scaleOf_total (S : ℕ → ℕ → ℕ → Prop) : scaleOf (F := Ideal) (BitVec.ofNat 32 (total S)) = Ideal.div ((77070336 : ℕ) : EReal) (((77070336 : ℕ) : EReal) - ((total S : ℕ) : EReal)) := by
  show Ideal.div (Ideal.ofBits .f32 0x4C930000#32) (Ideal.ofBits .f32 0x4C930000#32 - ((((BitVec.ofNat 32 (total S)).toInt : ℝ)) : EReal)) = _
  rw [ofBits_total, toInt_ofNat _ (lt_of_le_of_lt (total_le S) (by norm_num))]
  rfl

theorem select_bit (S : ℕ → ℕ → ℕ → Prop) (i k s Y X : ℕ) (hk : k < 24) (hs : 24 * i + k = s) (a : EReal) :
    Scalar.select (IntOp.cmpi .eq (IntOp.andi (BitVec.ofNat 32 (∑ k ∈ Finset.range 24, dropNat S (24 * i + k) Y X * 2 ^ k)) (BitVec.ofNat 32 (2 ^ k))) 0#32) a 0
      = if dropNat S s Y X = 0 then a else 0 := by
  subst hs
  have e := packed_bit (fun k => dropNat S (24 * i + k) Y X) (fun k => dropNat_le _ _ _ _) k hk
  unfold Scalar.select IntOp.cmpi IntOp.andi
  generalize BitVec.ofNat 32 (∑ k ∈ Finset.range 24, dropNat S (24 * i + k) Y X * 2 ^ k) &&& BitVec.ofNat 32 (2 ^ k) = w at e ⊢
  by_cases h : w = 0#32
  · rw [if_pos (e.mp h), if_pos]
    simp [h]
  · rw [if_neg (fun h' => h (e.mpr h')), if_neg]
    show ¬ BitVec.ofBool (w == 0#32) = 1#1
    rw [beq_false_of_ne h]; decide

theorem outs1_apply (t : Fin cfg1.N) (s : Fin 48) (Y X : Fin 224) :
    outsAt1 (V4 m ρ) c t (ix3 s Y X) = outVal (seedsOf m c) (48 * t.val + s.val) Y.val X.val (V4 m ρ c main_v0 (ix3 (⟨48 * t.val + s.val, by have := lt1 t; omega⟩ : Fin 1536) Y X)) := by
  unfold outsAt1
  rw [applyOut_apply, block1_0, block1_1, block1_2]
  have e1 : V4 m ρ c main_v8_1 (ix2 0 0) = BitVec.ofNat 32 (total (seedsOf m c)) := congrFun (W4_main_v8_1 m ρ c) _
  have e2 : V4 m ρ c main_v8_0 (ix3 (⟨2 * t.val + s.val / 24, by have := lt1 t; omega⟩ : Fin 64) Y X) = packedWord m c (2 * t.val + s.val / 24) Y.val X.val :=
    congrFun (W4_main_v8_0 m ρ c) _
  rw [e1]
  refine (congrArg (fun w : BitVec 32 => Scalar.select (IntOp.cmpi .eq (IntOp.andi w (BitVec.ofNat 32 (2 ^ (s.val % 24)))) 0#32) _ _) e2).trans ?_
  rw [scaleOf_total]
  show Scalar.select _ _ (Ideal.ofBits .f32 0x00000000#32) = _
  rw [Ideal.ofBits_zero_f32]
  exact select_bit (seedsOf m c) (2 * t.val + s.val / 24) (s.val % 24) _ _ _ (Nat.mod_lt _ (by norm_num)) (by omega) _

theorem W5_main_v9 : W5 m ρ c (Proc.devRef .tc main_v9) = fun i : S1536x224x224.Idx => outVal (seedsOf m c) (i 0).val (i 1).val (i 2).val (V4 m ρ c main_v0 i) := by
  refine (W5_arr m ρ c 3).trans ?_
  refine (dat1 (V4 m ρ) c).arrAt_eq_of_covers 3 _ (by decide +kernel) fun t hf y => ?_
  blk_simp
  rw [after1_3]
  have hy : (y : S48x224x224.Idx) = ix3 (y 0) (y 1) (y 2) := ValueIdx.eq_ix3 y
  refine (congrArg (outsAt1 (V4 m ρ) c t) hy).trans ((outs1_apply m ρ c t (y 0) (y 1) (y 2)).trans ?_)
  have he : (ix3 (⟨48 * t.val + ((y : S48x224x224.Idx) 0).val, by have := lt1 t; have : ((y : S48x224x224.Idx) 0).val < 48 := ((y : S48x224x224.Idx) 0).isLt; omega⟩ : Fin 1536) (y 1) (y 2) : S1536x224x224.Idx)
      = (win1_3.blk t).view.emb y := by
    blk_ext [idx1 t]
  rw [(idx1 t).2.2.2]
  show outVal _ (48 * t.val + ((y : S48x224x224.Idx) 0).val) ((y : S48x224x224.Idx) 1).val ((y : S48x224x224.Idx) 2).val _
    = outVal _ (t.val * 48 + ((y : S48x224x224.Idx) 0).val) (0 * 224 + ((y : S48x224x224.Idx) 1).val) (0 * 224 + ((y : S48x224x224.Idx) 2).val) _
  rw [Nat.zero_mul, Nat.zero_add, Nat.zero_add, Nat.mul_comm t.val 48]
  exact congrArg _ (congrArg (V4 m ρ c main_v0) he)

/-! ## The result -/

/-- The result at sample `(b, h)` and position `(Y, X)`. -/
theorem result_apply (b : Fin 8) (h : Fin 192) (Y X : Fin 224) :
    W6 m ρ c (Proc.devRef .tc main_v10) (ix4 b h Y X) = outVal (seedsOf m c) (b.val * 192 + h.val) Y.val X.val (m ((c : Thread nD τ).loc main_arg0) (ix4 b h Y X)) := by
  have e : W6 m ρ c (Proc.devRef .tc main_v10) = shapeCast S8x192x224x224 (W5 m ρ c (Proc.devRef .tc main_v9)) shapeCasts_S1536x224x224_S8x192x224x224 := by
    show after hostOps2 _ _ = _
    after_results
    rfl
  have hr : (S1536x224x224.rowMajor (ix3 (⟨b.val * 192 + h.val, by omega⟩ : Fin 1536) Y X)).val = (S8x192x224x224.rowMajor (ix4 b h Y X)).val := by
    rw [Shape.rowMajor_val_three, Shape.rowMajor_val_four]
    show ((b.val * 192 + h.val) * 224 + Y.val) * 224 + X.val = ((b.val * 192 + h.val) * 224 + Y.val) * 224 + X.val
    rfl
  rw [e]
  refine (shapeCast_apply _ _ _ (ix3 (⟨b.val * 192 + h.val, by omega⟩ : Fin 1536) Y X) hr).trans ?_
  rw [W5_main_v9]
  show outVal _ (b.val * 192 + h.val) Y.val X.val (W4 m ρ c (Proc.devRef .tc main_v0) _) = _
  rw [W4_of m ρ c main_v0 (by decide), V4_main_v0]
  exact congrArg _ (shapeCast_apply _ _ _ (ix4 b h Y X) hr.symm)

end Cert.KernelIdeal.Drop
-- ==== Proof.RefRun.lean ====
/- The run of the reference: its host operations as one list, in which every operation writes a buffer of its own, so that
   after the run every operation's equation holds of the final contents. -/
module

public import proofs.«01_k».proof.ReferenceIdeal
public import proofs.«01_k».proof.Proof.Gen.ReferenceIdeal
public import Idealize.ShloMosaic.Lib.StableHlo.RunHlo
public import Idealize.ShloMosaic.Lib.Quiescent

@[expose] public section

set_option maxRecDepth 16384

noncomputable section

namespace Cert.ReferenceIdeal.Drop

open Idealize.ShloMosaic Idealize.SL.Sem Idealize.ShloMosaic.StableHlo
open Cert.ReferenceIdeal Cert.ReferenceIdeal.Gen

/-! ## Straight lines in which each operation writes the next buffer -/

section Lines
variable {nD : Nat} {τ : Topo} {sig : RefSig} {Val : EltTy → Type} {Λ : Labels}

theorem isSeq_append {p k : Prog (TpuEff nD τ sig Val Λ .tc) PUnit} {l₁ l₂ : List (HloOp τ sig Val)}
    (h₁ : IsSeq p l₁) (h₂ : IsSeq k l₂) : IsSeq (p >>= fun _ => k) (l₁ ++ l₂) := by
  unfold IsSeq at h₁ h₂ ⊢; rw [h₁, h₂, seq_append]

theorem isSeq_single {op : HloOp τ sig Val} :
    IsSeq (nD := nD) (Λ := Λ) (hlo rfl op fun _ => .ret (⟨⟩ : PUnit)) [op] := rfl

/-- `op` writes the buffer of index `n` and looks at none of a larger one; run twice it does what it does run once. -/
structure WritesAt (n : ℕ) (op : HloOp τ sig Val) : Prop where
  bufs : ∀ b ∈ op.bufs, ∃ r : Ref sig .tc, b = Proc.devRef .tc r ∧ r.idx.val ≤ n
  writes : ∀ b ∈ op.writes, ∃ r : Ref sig .tc, b = Proc.devRef .tc r ∧ r.idx.val = n
  again : ∀ U, op.result (op.result U) = op.result U
  fresh : op.fresh = ∅

/-- The operations of the list write the buffers `n`, `n + 1`, … in this order. -/
def InOrder : ℕ → List (HloOp τ sig Val) → Prop
  | _, [] => True
  | n, op :: ops => WritesAt n op ∧ InOrder (n + 1) ops

theorem inOrder_cons {n m : ℕ} {op : HloOp τ sig Val} {ops : List (HloOp τ sig Val)} (hm : n + 1 = m) (h : WritesAt n op)
    (h' : InOrder m ops) : InOrder n (op :: ops) := ⟨h, hm ▸ h'⟩

theorem inOrder_append : ∀ {n : ℕ} {l₁ l₂ : List (HloOp τ sig Val)}, InOrder n l₁ → InOrder (n + l₁.length) l₂ → InOrder n (l₁ ++ l₂)
  | _, [], _, _, h₂ => h₂
  | n, op :: l₁, l₂, h₁, h₂ => ⟨h₁.1, inOrder_append h₁.2 (by rw [Nat.add_assoc, Nat.add_comm 1]; exact h₂)⟩

theorem inOrder_fresh : ∀ {n : ℕ} {ops : List (HloOp τ sig Val)}, InOrder n ops → ∀ op ∈ ops, op.fresh = ∅
  | _, _ :: _, h, _, .head _ => h.1.fresh
  | _, _ :: _, h, op, .tail _ hop => inOrder_fresh h.2 op hop

theorem inOrder_bufs : ∀ {n : ℕ} {ops : List (HloOp τ sig Val)}, InOrder n ops → ops.Forall fun op => op.bufs ⊆ tcRefs τ sig
  | _, [], _ => trivial
  | _, op :: ops, h => (List.forall_cons _ _ _).mpr ⟨fun b hb => by
      obtain ⟨r, rfl, -⟩ := h.1.bufs b hb; exact devRef_mem_tcRefs r, inOrder_bufs h.2⟩

/-- A buffer before the first one written keeps its contents. -/
theorem after_low : ∀ {n : ℕ} {ops : List (HloOp τ sig Val)}, InOrder n ops → ∀ (V : Valuation τ sig Val) (r : Ref sig .tc),
    r.idx.val < n → after ops V (Proc.devRef .tc r) = V (Proc.devRef .tc r)
  | _, [], _, _, _, _ => rfl
  | n, op :: ops, h, V, r, hr => by
    rw [after_cons, after_low h.2 _ r (Nat.lt_succ_of_lt hr), op.result_of_not_mem]
    intro hb
    obtain ⟨r', he, hr'⟩ := h.1.writes _ hb
    have : r = r' := Proc.devRef_injective _ he
    subst this; omega

/-- The final contents satisfy every operation's equation. -/
theorem fixed : ∀ {n : ℕ} {ops : List (HloOp τ sig Val)}, InOrder n ops → ∀ V : Valuation τ sig Val,
    ops.Forall fun op => op.result (after ops V) = after ops V
  | _, [], _, _ => trivial
  | n, op :: ops, h, V => by
    refine (List.forall_cons _ _ _).mpr ⟨?_, fixed h.2 (op.result V)⟩
    have hlow : ∀ b ∈ op.bufs, after ops (op.result V) b = op.result V b := fun b hb => by
      obtain ⟨r, rfl, hr⟩ := h.1.bufs b hb
      exact after_low h.2 _ r (Nat.lt_succ_of_le hr)
    funext b
    rw [after_cons]
    by_cases hb : b ∈ op.bufs
    · rw [op.result_congr hlow b hb, h.1.again, hlow b hb]
    · exact op.result_of_not_mem _ fun hw => hb (op.writes_sub hw)

/-- A one-result operation that does not read its result does the same run twice. -/
theorem again_of {op : HloOp τ sig Val} {y : Ref sig .tc} (hw : op.writes = {Proc.devRef .tc y})
    (h : ∀ U U' : Valuation τ sig Val, (∀ b, b ≠ Proc.devRef .tc y → U b = U' b) →
      op.result U (Proc.devRef .tc y) = op.result U' (Proc.devRef .tc y)) (U : Valuation τ sig Val) :
    op.result (op.result U) = op.result U := by
  have hne : ∀ b, b ≠ Proc.devRef .tc y → ∀ V, op.result V b = V b := fun b hb V =>
    op.result_of_not_mem _ (by rw [hw]; exact fun h => hb (Finset.mem_singleton.mp h))
  funext b
  by_cases hb : b = Proc.devRef .tc y
  · subst hb; exact h _ _ fun b hb => hne b hb U
  · exact hne b hb _

theorem writesAt_nullary {n : ℕ} (y : Ref sig .tc) (v : y.ty.Contents Val) (hy) (hn : y.idx.val = n) :
    WritesAt (τ := τ) n (StableHlo.nullary y v hy) where
  bufs b hb := ⟨y, Finset.mem_singleton.mp hb, hn.le⟩
  writes b hb := ⟨y, Finset.mem_singleton.mp hb, hn⟩
  again := again_of (y := y) rfl fun U U' _ => by rw [nullary_result, nullary_result]
  fresh := rfl

theorem ne_of_idx {x y : Ref sig .tc} (h : x.idx.val < y.idx.val) : Proc.devRef (τ := τ) .tc x ≠ Proc.devRef .tc y := fun he => by
  have : x = y := Proc.devRef_injective _ he
  subst this; omega

theorem writesAt_unary {n : ℕ} (x y : Ref sig .tc) (f : x.ty.Contents Val → y.ty.Contents Val) (hx hy) (hn : y.idx.val = n) (h : x.idx.val < y.idx.val) :
    WritesAt (τ := τ) n (StableHlo.unary x y f hx hy) where
  bufs b hb := by
    rcases Finset.mem_insert.mp hb with rfl | hb
    · exact ⟨x, rfl, h.le.trans hn.le⟩
    · exact ⟨y, Finset.mem_singleton.mp hb, hn.le⟩
  writes b hb := ⟨y, Finset.mem_singleton.mp hb, hn⟩
  again := again_of (y := y) rfl fun U U' hU => by rw [unary_result, unary_result, hU _ (ne_of_idx h)]
  fresh := rfl

theorem writesAt_reshape {n : ℕ} (x y : Ref sig .tc) (he hc hx hy) (hn : y.idx.val = n) (h : x.idx.val < y.idx.val) :
    WritesAt (τ := τ) (Val := Val) n (StableHlo.reshape x y he hc hx hy) where
  bufs b hb := by
    rcases Finset.mem_insert.mp hb with rfl | hb
    · exact ⟨x, rfl, h.le.trans hn.le⟩
    · exact ⟨y, Finset.mem_singleton.mp hb, hn.le⟩
  writes b hb := ⟨y, Finset.mem_singleton.mp hb, hn⟩
  again := again_of (y := y) rfl fun U U' hU => by rw [reshape_result, reshape_result, hU _ (ne_of_idx h)]
  fresh := rfl

theorem writesAt_binary {n : ℕ} (a b y : Ref sig .tc) (f : a.ty.Contents Val → b.ty.Contents Val → y.ty.Contents Val) (ha hb hy)
    (hn : y.idx.val = n) (h₁ : a.idx.val < y.idx.val) (h₂ : b.idx.val < y.idx.val) :
    WritesAt (τ := τ) n (StableHlo.binary a b y f ha hb hy) where
  bufs c hc := by
    rcases Finset.mem_insert.mp hc with rfl | hc
    · exact ⟨a, rfl, h₁.le.trans hn.le⟩
    rcases Finset.mem_insert.mp hc with rfl | hc
    · exact ⟨b, rfl, h₂.le.trans hn.le⟩
    · exact ⟨y, Finset.mem_singleton.mp hc, hn.le⟩
  writes c hc := ⟨y, Finset.mem_singleton.mp hc, hn⟩
  again := again_of (y := y) rfl fun U U' hU => by rw [binary_result, binary_result, hU _ (ne_of_idx h₁), hU _ (ne_of_idx h₂)]
  fresh := rfl

end Lines

/-! ## The reference as one list -/

section Ops
variable {F : FTy → Type} [FloatOps F]

/-- The key schedule's rounds. -/
def roundsOps (a0 a1 : TRef sig ⟨S_, .i32⟩) (a2 a3 : TRef sig ⟨S1, .i32⟩) (φ : fn_threefry2x32.Bufs) :
    {ops // IsSeq (fn_threefry2x32.body (F := F) a0 a1 a2 a3 φ) ops} := by
  apply Subtype.mk
  · apply isSeq_append; on_goal 2 => apply isSeq_append; on_goal 2 => apply isSeq_append
    · unfold fn_threefry2x32.body_part0; repeat (first | exact isSeq_single | apply IsSeq.cons)
    · unfold fn_threefry2x32.body_part1; repeat (first | exact isSeq_single | apply IsSeq.cons)
    · unfold fn_threefry2x32.body_part2; repeat (first | exact isSeq_single | apply IsSeq.cons)
    · unfold fn_threefry2x32.body_part3; repeat (first | exact IsSeq.nil | exact isSeq_single | apply IsSeq.cons)

/-- The rounds over the whole array of counters. -/
def roundsOps_0 (a0 a1 : TRef sig ⟨S_, .i32⟩) (a2 a3 : TRef sig ⟨S8x192x220x220, .i32⟩) (φ : fn_threefry2x32_0.Bufs) :
    {ops // IsSeq (fn_threefry2x32_0.body (F := F) a0 a1 a2 a3 φ) ops} := by
  apply Subtype.mk
  · apply isSeq_append; on_goal 2 => apply isSeq_append; on_goal 2 => apply isSeq_append
    · unfold fn_threefry2x32_0.body_part0; repeat (first | exact isSeq_single | apply IsSeq.cons)
    · unfold fn_threefry2x32_0.body_part1; repeat (first | exact isSeq_single | apply IsSeq.cons)
    · unfold fn_threefry2x32_0.body_part2; repeat (first | exact isSeq_single | apply IsSeq.cons)
    · unfold fn_threefry2x32_0.body_part3; repeat (first | exact IsSeq.nil | exact isSeq_single | apply IsSeq.cons)

/-- The folding of the key. -/
def foldOps (a0 : TRef sig ⟨S2, .i32⟩) (a1 : TRef sig ⟨S_, .i32⟩) (φ : fn_threefry_fold_in.Bufs) :
    {ops // IsSeq (fn_threefry_fold_in.body (F := F) a0 a1 φ) ops} := by
  apply Subtype.mk
  · unfold fn_threefry_fold_in.body
    repeat (first | exact IsSeq.nil | with_reducible apply isSeq_append (roundsOps _ _ _ _ _).2 | apply IsSeq.cons)

/-- The padding. -/
def padOps (a0 : TRef sig ⟨S8x192x220x220, .f32⟩) (a1 : TRef sig ⟨S_, .i32⟩) (φ : fn_pad.Bufs) :
    {ops // IsSeq (fn_pad.body (F := F) a0 a1 φ) ops} := by
  apply Subtype.mk
  · unfold fn_pad.body
    repeat (first | exact IsSeq.nil | apply IsSeq.cons)

/-- The whole program. -/
def mainOps (d : Dev nD) : {ops // IsSeq (main (F := F) d) ops} := by
  apply Subtype.mk
  · apply isSeq_append
    · unfold main_part0
      repeat (first
        | exact isSeq_single
        | with_reducible apply isSeq_append (foldOps _ _ _).2
        | with_reducible apply isSeq_append (roundsOps_0 _ _ _ _ _).2
        | with_reducible apply isSeq_append (padOps _ _ _).2
        | apply IsSeq.cons)
    · unfold main_part1
      repeat (first | exact IsSeq.nil | apply IsSeq.cons)

set_option maxHeartbeats 8000000 in
/-- Every operation writes the next buffer. -/
theorem main_inOrder (d : Dev nD) : InOrder 2 (mainOps (F := F) d).1 := by
  dsimp only [mainOps, foldOps, roundsOps, roundsOps_0, padOps, List.cons_append, List.nil_append]
  repeat (first
    | exact trivial
    | refine inOrder_cons rfl (writesAt_binary _ _ _ _ _ _ _ rfl (by decide) (by decide)) ?_
    | refine inOrder_cons rfl (writesAt_unary _ _ _ _ _ rfl (by decide)) ?_
    | refine inOrder_cons rfl (writesAt_nullary _ _ _ rfl) ?_
    | refine inOrder_cons rfl (writesAt_reshape _ _ _ _ _ _ rfl (by decide)) ?_)

/-- The program runs to its end: each buffer holds what the list leaves in it, and every semaphore reads zero. -/
theorem run_all (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = after (mainOps (F := F) d).1 (launchContents m d) (Proc.devRef .tc b))
      ∧ r.2.sem = fun _ => 0 :=
  θ_run_mono (run_seq (by decide) (by decide) defs main (fun d => (mainOps (F := F) d).1) (fun d => (mainOps (F := F) d).2)
      (fun d => inOrder_bufs (main_inOrder d)) m ρ (fun d => inOrder_fresh (main_inOrder d)))
    fun r h => ⟨h, sem_eq_zero_of_no_sems rfl r.2⟩

end Ops

end Cert.ReferenceIdeal.Drop

end
-- ==== Proof.RefRounds.lean ====
/- The rounds of the reference's random bits: any valuation in which every operation of a call's list has run already has the
   block function's two words in the call's results. -/
module

public import proofs.«01_k».proof.Proof.RefRun
public import proofs.«01_k».proof.Proof.DropMaths
public import Idealize.ShloMosaic.Lib.IdealHost

@[expose] public section

set_option maxRecDepth 16384

noncomputable section

namespace Cert.ReferenceIdeal.Drop

open Idealize.ShloMosaic Idealize.SL.Sem Idealize.ShloMosaic.StableHlo
open Cert.ReferenceIdeal Cert.ReferenceIdeal.Gen Cert.DropBlock

/-! ## What a typed reference holds -/

section Val
variable {τ : Topo} {sig : RefSig} {Val : EltTy → Type} {Tx Ta Tb Ty : BufTy} {V : Valuation τ sig Val}

/-- The contents of a typed reference. -/
def val (V : Valuation τ sig Val) (x : TRef sig Tx) : Tx.Contents Val := x.ofBuf (V (Proc.devRef .tc x.ref))

theorem ofBuf_toBuf' (y : TRef sig Ty) (v : Ty.Contents Val) : y.ofBuf (y.toBuf v) = v := TRef.ofBuf_toBuf y v

theorem val_nullary {y : TRef sig Ty} {v : Ty.Contents Val} (h : (TRef.nullary (τ := τ) y v).result V = V) : val V y = v := by
  unfold val; rw [← h, nullary_result]; exact ofBuf_toBuf' y v

theorem val_unary {x : TRef sig Tx} {y : TRef sig Ty} {f : Tx.Contents Val → Ty.Contents Val}
    (h : (TRef.unary (τ := τ) x y f).result V = V) : val V y = f (val V x) := by
  have h' := congrFun h (Proc.devRef .tc y.ref)
  rw [unary_result] at h'
  unfold val; rw [← h']; exact ofBuf_toBuf' y _

theorem val_binary {a : TRef sig Ta} {b : TRef sig Tb} {y : TRef sig Ty} {f : Ta.Contents Val → Tb.Contents Val → Ty.Contents Val}
    (h : (TRef.binary (τ := τ) a b y f).result V = V) : val V y = f (val V a) (val V b) := by
  have h' := congrFun h (Proc.devRef .tc y.ref)
  rw [binary_result] at h'
  unfold val; rw [← h']; exact ofBuf_toBuf' y _

end Val

/-! ## One round, and one addition of key words -/

section Rounds
variable {F : FTy → Type} [FloatOps F] {S : Shape} {V : Valuation τ sig (Elt F)}

/-- Every operation of the list has run already. -/
abbrev Ran (V : Valuation τ sig (Elt F)) (l : List (HloOp τ sig (Elt F))) : Prop := l.Forall fun op => op.result V = V

theorem step {op : HloOp τ sig (Elt F)} {l : List (HloOp τ sig (Elt F))} (h : Ran V (op :: l)) : op.result V = V ∧ Ran V l :=
  (List.forall_cons _ _ _).mp h

/-- The pair of words two references hold at a position. -/
def two (V : Valuation τ sig (Elt F)) (x0 x1 : TRef sig ⟨S, .i32⟩) (i : S.Idx) : BitVec 32 × BitVec 32 := (val V x0 i, val V x1 i)

theorem round_ran {x0 x1 s v7 v8 v9 v10 v11 v12 : TRef sig ⟨S, .i32⟩} {ca cb : TRef sig ⟨S_, .i32⟩} {ra rb : BitVec 32}
    {bc bc' : S_.BroadcastsInDim S ![]} {l : List (HloOp τ sig (Elt F))}
    (h : Ran V (TRef.binary x0 x1 s addi :: TRef.nullary ca (constantI S_ 32 ra) :: TRef.unary ca v7 (broadcastInDim S ![] bc)
      :: TRef.binary x1 v7 v8 Host.shli :: TRef.nullary cb (constantI S_ 32 rb) :: TRef.unary cb v9 (broadcastInDim S ![] bc')
      :: TRef.binary x1 v9 v10 Host.shrui :: TRef.binary v8 v10 v11 ori :: TRef.binary s v11 v12 xori :: l))
    (ha : ra.toNat < 32 := by decide) (hb : rb.toNat < 32 := by decide) :
    (∀ i, two V s v12 i = round ra.toNat rb.toNat (two V x0 x1 i)) ∧ Ran V l := by
  obtain ⟨h0, h⟩ := step h
  obtain ⟨h1, h⟩ := step h
  obtain ⟨h2, h⟩ := step h
  obtain ⟨h3, h⟩ := step h
  obtain ⟨h4, h⟩ := step h
  obtain ⟨h5, h⟩ := step h
  obtain ⟨h6, h⟩ := step h
  obtain ⟨h7, h⟩ := step h
  obtain ⟨h8, h⟩ := step h
  refine ⟨fun i => ?_, h⟩
  unfold two
  rw [val_binary h8, val_binary h7, val_binary h6, val_unary h5, val_nullary h4, val_binary h3, val_unary h2, val_nullary h1, val_binary h0]
  have e8 : ∀ x : BitVec 32, IntOp.shli .host x ra = x <<< ra.toNat := fun x => by unfold IntOp.shli; rw [if_pos ha]; rfl
  have e10 : ∀ x : BitVec 32, IntOp.shrui .host x rb = x >>> rb.toNat := fun x => by unfold IntOp.shrui; rw [if_pos hb]; rfl
  show (val V x0 i + val V x1 i, (val V x0 i + val V x1 i) ^^^ (IntOp.shli .host (val V x1 i) ra ||| IntOp.shrui .host (val V x1 i) rb)) = _
  rw [e8, e10]; rfl

theorem inject_ran {x0 x1 b0 y0 b1 t1 bn y1 : TRef sig ⟨S, .i32⟩} {k0 k1 c : TRef sig ⟨S_, .i32⟩} {n : BitVec 32}
    {p q r : S_.BroadcastsInDim S ![]} {l : List (HloOp τ sig (Elt F))}
    (h : Ran V (TRef.unary k0 b0 (broadcastInDim S ![] p) :: TRef.binary x0 b0 y0 addi :: TRef.unary k1 b1 (broadcastInDim S ![] q)
      :: TRef.binary x1 b1 t1 addi :: TRef.nullary c (constantI S_ 32 n) :: TRef.unary c bn (broadcastInDim S ![] r)
      :: TRef.binary t1 bn y1 addi :: l)) :
    (∀ i, two V y0 y1 i = inject (val V k0 ValueIdx.ix0) (val V k1 ValueIdx.ix0) n (two V x0 x1 i)) ∧ Ran V l := by
  obtain ⟨h0, h⟩ := step h
  obtain ⟨h1, h⟩ := step h
  obtain ⟨h2, h⟩ := step h
  obtain ⟨h3, h⟩ := step h
  obtain ⟨h4, h⟩ := step h
  obtain ⟨h5, h⟩ := step h
  obtain ⟨h6, h⟩ := step h
  refine ⟨fun i => ?_, h⟩
  unfold two
  rw [val_binary h6, val_unary h5, val_nullary h4, val_binary h3, val_unary h2, val_binary h1, val_unary h0]
  show (val V x0 i + broadcastInDim S ![] p (val V k0) i, val V x1 i + broadcastInDim S ![] q (val V k1) i + n) = _
  rw [Idealize.ShloMosaic.ValueIdx.broadcastInDim_scalar_apply, Idealize.ShloMosaic.ValueIdx.broadcastInDim_scalar_apply]
  rfl

set_option maxHeartbeats 4000000 in
/-- The block function on one counter. -/
theorem rounds_ran {a0 a1 : TRef sig ⟨S_, .i32⟩} {a2 a3 : TRef sig ⟨S1, .i32⟩} {φ : fn_threefry2x32.Bufs}
    (h : Ran V (roundsOps (F := F) a0 a1 a2 a3 φ).1) (i : S1.Idx) :
    two V φ.v171 φ.v175 i = threefry (val V a0 ValueIdx.ix0) (val V a1 ValueIdx.ix0) (val V a2 i) (val V a3 i) := by
  dsimp only [roundsOps, List.cons_append, List.nil_append] at h
  obtain ⟨u0, h⟩ := step h
  obtain ⟨u1, h⟩ := step h
  obtain ⟨u2, h⟩ := step h
  obtain ⟨u3, h⟩ := step h
  obtain ⟨u4, h⟩ := step h
  obtain ⟨u5, h⟩ := step h
  obtain ⟨u6, h⟩ := step h
  obtain ⟨r0, h⟩ := round_ran h
  obtain ⟨r1, h⟩ := round_ran h
  obtain ⟨r2, h⟩ := round_ran h
  obtain ⟨r3, h⟩ := round_ran h
  obtain ⟨q0, h⟩ := inject_ran h
  obtain ⟨r4, h⟩ := round_ran h
  obtain ⟨r5, h⟩ := round_ran h
  obtain ⟨r6, h⟩ := round_ran h
  obtain ⟨r7, h⟩ := round_ran h
  obtain ⟨q1, h⟩ := inject_ran h
  obtain ⟨r8, h⟩ := round_ran h
  obtain ⟨r9, h⟩ := round_ran h
  obtain ⟨r10, h⟩ := round_ran h
  obtain ⟨r11, h⟩ := round_ran h
  obtain ⟨q2, h⟩ := inject_ran h
  obtain ⟨r12, h⟩ := round_ran h
  obtain ⟨r13, h⟩ := round_ran h
  obtain ⟨r14, h⟩ := round_ran h
  obtain ⟨r15, h⟩ := round_ran h
  obtain ⟨q3, h⟩ := inject_ran h
  obtain ⟨r16, h⟩ := round_ran h
  obtain ⟨r17, h⟩ := round_ran h
  obtain ⟨r18, h⟩ := round_ran h
  obtain ⟨r19, h⟩ := round_ran h
  obtain ⟨q4, h⟩ := inject_ran h
  have hk : val V φ.v1 ValueIdx.ix0 = third (val V a0 ValueIdx.ix0) (val V a1 ValueIdx.ix0) := by
    rw [val_binary u2, val_nullary u1, val_binary u0]; rfl
  have hs : two V φ.v3 φ.v5 i = (val V a2 i + val V a0 ValueIdx.ix0, val V a3 i + val V a1 ValueIdx.ix0) := by
    unfold two
    rw [val_binary u4, val_unary u3, val_binary u6, val_unary u5]
    show (val V a2 i + broadcastInDim _ ![] _ (val V a0) i, val V a3 i + broadcastInDim _ ![] _ (val V a1) i) = _
    rw [Idealize.ShloMosaic.ValueIdx.broadcastInDim_scalar_apply, Idealize.ShloMosaic.ValueIdx.broadcastInDim_scalar_apply]
  rw [q4, r19, r18, r17, r16, q3, r15, r14, r13, r12, q2, r11, r10, r9, r8, q1, r7, r6, r5, r4, q0, r3, r2, r1, r0, hs, hk]
  clear * -
  unfold threefry quadA quadB
  rfl

set_option maxHeartbeats 4000000 in
/-- The block function over the whole array of counters. -/
theorem rounds_ran_0 {a0 a1 : TRef sig ⟨S_, .i32⟩} {a2 a3 : TRef sig ⟨S8x192x220x220, .i32⟩} {φ : fn_threefry2x32_0.Bufs}
    (h : Ran V (roundsOps_0 (F := F) a0 a1 a2 a3 φ).1) (i : S8x192x220x220.Idx) :
    two V φ.v171 φ.v175 i = threefry (val V a0 ValueIdx.ix0) (val V a1 ValueIdx.ix0) (val V a2 i) (val V a3 i) := by
  dsimp only [roundsOps_0, List.cons_append, List.nil_append] at h
  obtain ⟨u0, h⟩ := step h
  obtain ⟨u1, h⟩ := step h
  obtain ⟨u2, h⟩ := step h
  obtain ⟨u3, h⟩ := step h
  obtain ⟨u4, h⟩ := step h
  obtain ⟨u5, h⟩ := step h
  obtain ⟨u6, h⟩ := step h
  obtain ⟨r0, h⟩ := round_ran h
  obtain ⟨r1, h⟩ := round_ran h
  obtain ⟨r2, h⟩ := round_ran h
  obtain ⟨r3, h⟩ := round_ran h
  obtain ⟨q0, h⟩ := inject_ran h
  obtain ⟨r4, h⟩ := round_ran h
  obtain ⟨r5, h⟩ := round_ran h
  obtain ⟨r6, h⟩ := round_ran h
  obtain ⟨r7, h⟩ := round_ran h
  obtain ⟨q1, h⟩ := inject_ran h
  obtain ⟨r8, h⟩ := round_ran h
  obtain ⟨r9, h⟩ := round_ran h
  obtain ⟨r10, h⟩ := round_ran h
  obtain ⟨r11, h⟩ := round_ran h
  obtain ⟨q2, h⟩ := inject_ran h
  obtain ⟨r12, h⟩ := round_ran h
  obtain ⟨r13, h⟩ := round_ran h
  obtain ⟨r14, h⟩ := round_ran h
  obtain ⟨r15, h⟩ := round_ran h
  obtain ⟨q3, h⟩ := inject_ran h
  obtain ⟨r16, h⟩ := round_ran h
  obtain ⟨r17, h⟩ := round_ran h
  obtain ⟨r18, h⟩ := round_ran h
  obtain ⟨r19, h⟩ := round_ran h
  obtain ⟨q4, h⟩ := inject_ran h
  have hk : val V φ.v1 ValueIdx.ix0 = third (val V a0 ValueIdx.ix0) (val V a1 ValueIdx.ix0) := by
    rw [val_binary u2, val_nullary u1, val_binary u0]; rfl
  have hs : two V φ.v3 φ.v5 i = (val V a2 i + val V a0 ValueIdx.ix0, val V a3 i + val V a1 ValueIdx.ix0) := by
    unfold two
    rw [val_binary u4, val_unary u3, val_binary u6, val_unary u5]
    show (val V a2 i + broadcastInDim _ ![] _ (val V a0) i, val V a3 i + broadcastInDim _ ![] _ (val V a1) i) = _
    rw [Idealize.ShloMosaic.ValueIdx.broadcastInDim_scalar_apply, Idealize.ShloMosaic.ValueIdx.broadcastInDim_scalar_apply]
  rw [q4, r19, r18, r17, r16, q3, r15, r14, r13, r12, q2, r11, r10, r9, r8, q1, r7, r6, r5, r4, q0, r3, r2, r1, r0, hs, hk]
  clear * -
  unfold threefry quadA quadB
  rfl

end Rounds

end Cert.ReferenceIdeal.Drop

end
-- ==== Proof.RefEnds.lean ====
/- What the reference's buffers hold at the end, each in terms of earlier ones: the key, the counters, the random words, and
   the equations from the words to the result. -/
module

public import proofs.«01_k».proof.Proof.RefRounds
public import Idealize.ShloMosaic.Lib.Pipeline.Value

@[expose] public section

set_option maxRecDepth 16384

noncomputable section

namespace Cert.ReferenceIdeal.Drop

open Idealize.ShloMosaic Idealize.SL.Sem Idealize.ShloMosaic.StableHlo Idealize.ShloMosaic.ValueIdx
open Cert.ReferenceIdeal Cert.ReferenceIdeal.Gen Cert.DropBlock

variable {F : FTy → Type} [FloatOps F] {V : Valuation τ sig (Elt F)}

theorem forall_append {p : HloOp τ sig (Elt F) → Prop} {l₁ l₂ : List (HloOp τ sig (Elt F))} (h : (l₁ ++ l₂).Forall p) : l₁.Forall p ∧ l₂.Forall p :=
  List.forall_append.mp h

theorem of_nullary {y : Ref sig .tc} {v : y.ty.Contents (Elt F)} {hy} (h : (StableHlo.nullary (τ := τ) y v hy).result V = V) :
    V (Proc.devRef .tc y) = v := (congrFun h _).symm.trans (nullary_result y v hy V)

theorem of_unary {x y : Ref sig .tc} {f : x.ty.Contents (Elt F) → y.ty.Contents (Elt F)} {hx hy}
    (h : (StableHlo.unary (τ := τ) x y f hx hy).result V = V) : V (Proc.devRef .tc y) = f (V (Proc.devRef .tc x)) :=
  (congrFun h _).symm.trans (unary_result x y f hx hy V)

theorem of_binary {a b y : Ref sig .tc} {f : a.ty.Contents (Elt F) → b.ty.Contents (Elt F) → y.ty.Contents (Elt F)} {ha hb hy}
    (h : (StableHlo.binary (τ := τ) a b y f ha hb hy).result V = V) :
    V (Proc.devRef .tc y) = f (V (Proc.devRef .tc a)) (V (Proc.devRef .tc b)) :=
  (congrFun h _).symm.trans (binary_result a b y f ha hb hy V)

theorem of_reshape {x y : Ref sig .tc} {he : x.ty.elt = y.ty.elt} {hn : x.ty.shape.ShapeCasts y.ty.shape} {hx hy}
    (h : (StableHlo.reshape (τ := τ) (Val := Elt F) x y he hn hx hy).result V = V) :
    V (Proc.devRef .tc y) = fun i => he ▸ shapeCast y.ty.shape (V (Proc.devRef .tc x)) hn i :=
  (congrFun h _).symm.trans (reshape_result x y he hn hx hy V)

theorem only_one (i j : S1.Idx) : i = j := by
  funext k
  apply Fin.ext
  fin_cases k
  have hi : (i 0).val < 1 := (i 0).isLt
  have hj : (j 0).val < 1 := (j 0).isLt
  show (i 0).val = (j 0).val
  omega

/-- The first of two words joined. -/
theorem joined_fst (a b : S1.Idx → BitVec 32) (i : S1.Idx) :
    extractStridedSlice S1 ![0] (concatenate S2 0 [⟨S1, a⟩, ⟨S1, b⟩] concatenates_S1_S1_S2_d0) slices_S2_S1_0 i = a i := by
  rw [extractStridedSlice_apply (k := (ValueIdx.ix1 (0 : Fin 2) : S2.Idx)) _ _ _ _ (fun a => by fin_cases a; have hi : (i 0).val < 1 := (i 0).isLt; first | (show 0 = 0 + (i 0).val; omega) | (show 1 = 1 + (i 0).val; omega))]
  exact concatenate_pair_apply_left (t := S2) 0 a b _ _ rfl i (fun b => by fin_cases b; have hi : (i 0).val < 1 := (i 0).isLt; show (i 0).val = 0; omega)

/-- The second of two words joined. -/
theorem joined_snd (a b : S1.Idx → BitVec 32) (i : S1.Idx) :
    extractStridedSlice S1 ![1] (concatenate S2 0 [⟨S1, a⟩, ⟨S1, b⟩] concatenates_S1_S1_S2_d0) slices_S2_S1_1 i = b i := by
  rw [extractStridedSlice_apply (k := (ValueIdx.ix1 (1 : Fin 2) : S2.Idx)) _ _ _ _ (fun a => by fin_cases a; have hi : (i 0).val < 1 := (i 0).isLt; first | (show 0 = 0 + (i 0).val; omega) | (show 1 = 1 + (i 0).val; omega))]
  exact concatenate_pair_apply_right (t := S2) 0 a b _ _ rfl rfl i (fun b hb => by fin_cases b; exact absurd rfl hb) (by have hi : (i 0).val < 1 := (i 0).isLt; show (i 0).val + 1 = 1; omega)

/-- A one-word array as a scalar. -/
theorem one_word (a : S1.Idx → BitVec 32) (i : S_.Idx) (j : S1.Idx) : shapeCast S_ a shapeCasts_S1_S_ i = a j := by
  unfold shapeCast
  exact congrArg a (only_one _ _)

/-- The counter of a position: its place in row-major order. -/
def place (i : S8x192x220x220.Idx) : ℕ := ((i 0).val * 192 + (i 1).val) * 48400 + (i 2).val * 220 + (i 3).val

theorem high_word0 (o : S1.Idx) : broadcastInDim S1 ![] bcast_S_S1 (id (Host.shrui (constantI S_ 32 0#32) (constantI S_ 32 32#32))) o = 0#32 := by
  rw [broadcastInDim_scalar_apply]
  show IntOp.shrui .host 0#32 32#32 = 0#32
  decide

theorem low_word0 (o : S1.Idx) : broadcastInDim S1 ![] bcast_S_S1 (id (andi (constantI S_ 32 0#32) (constantI S_ 32 4294967295#32))) o = 0#32 := by
  rw [broadcastInDim_scalar_apply]
  show IntOp.andi 0#32 4294967295#32 = 0#32
  decide

theorem high_word (o : S1.Idx) : broadcastInDim S1 ![] bcast_S_S1 (Host.shrui (constantI S_ 32 123#32) (constantI S_ 32 32#32)) o = 0#32 := by
  rw [broadcastInDim_scalar_apply]
  show IntOp.shrui .host 123#32 32#32 = 0#32
  decide

theorem low_word (o : S1.Idx) : broadcastInDim S1 ![] bcast_S_S1 (andi (constantI S_ 32 123#32) (constantI S_ 32 4294967295#32)) o = 123#32 := by
  rw [broadcastInDim_scalar_apply]
  show IntOp.andi 123#32 4294967295#32 = 123#32
  decide

theorem threefry_congr {a a' b b' x x' y y' : BitVec 32} (ha : a = a') (hb : b = b') (hx : x = x') (hy : y = y') :
    threefry a b x y = threefry a' b' x' y' := by rw [ha, hb, hx, hy]

/-- The counter as a 64-bit sum. -/
theorem counter_eq (i : S8x192x220x220.Idx) : 9292800#64 * BitVec.ofNat 64 (i 0).val + 48400#64 * BitVec.ofNat 64 (i 1).val
      + 220#64 * BitVec.ofNat 64 (i 2).val + 1#64 * BitVec.ofNat 64 (i 3).val = BitVec.ofNat 64 (place i) ∧ place i < 2 ^ 32 := by
  have h0 : (i 0).val < 8 := (i 0).isLt
  have h1 : (i 1).val < 192 := (i 1).isLt
  have h2 : (i 2).val < 220 := (i 2).isLt
  have h3 : (i 3).val < 220 := (i 3).isLt
  unfold place
  refine ⟨?_, by omega⟩
  rw [← BitVec.ofNat_mul, ← BitVec.ofNat_mul, ← BitVec.ofNat_mul, ← BitVec.ofNat_mul, ← BitVec.ofNat_add, ← BitVec.ofNat_add, ← BitVec.ofNat_add]
  congr 1; omega

theorem counter_lo (i : S8x192x220x220.Idx) : (9292800#64 * BitVec.ofNat 64 (i 0).val + 48400#64 * BitVec.ofNat 64 (i 1).val
      + 220#64 * BitVec.ofNat 64 (i 2).val + 1#64 * BitVec.ofNat 64 (i 3).val).setWidth 32 = BitVec.ofNat 32 (place i) := by
  rw [(counter_eq i).1]
  have := (counter_eq i).2
  apply BitVec.eq_of_toNat_eq
  rw [BitVec.toNat_setWidth, BitVec.toNat_ofNat, BitVec.toNat_ofNat]
  omega

theorem counter_hi (i : S8x192x220x220.Idx) : (IntOp.shrui .host (9292800#64 * BitVec.ofNat 64 (i 0).val + 48400#64 * BitVec.ofNat 64 (i 1).val
      + 220#64 * BitVec.ofNat 64 (i 2).val + 1#64 * BitVec.ofNat 64 (i 3).val) 32#64).setWidth 32 = 0#32 := by
  rw [(counter_eq i).1]
  have := (counter_eq i).2
  unfold IntOp.shrui
  rw [if_pos (by decide)]
  apply BitVec.eq_of_toNat_eq
  rw [BitVec.toNat_setWidth, BitVec.ushiftRight_eq', BitVec.toNat_ushiftRight, BitVec.toNat_ofNat, Nat.shiftRight_eq_div_pow]
  show place i % 2 ^ 64 / 2 ^ 32 % 2 ^ 32 = 0
  omega

set_option maxHeartbeats 16000000 in
/-- What the buffers hold at the end: the random words, and the equations from them to the result. -/
theorem ends {d : Dev nD} (h : Ran V (mainOps (F := F) d).1) :
    (∀ i : S8x192x220x220.Idx, V (Proc.devRef .tc main_v32) i = bitsOf (BitVec.ofNat 32 (place i)))
    ∧ (V (Proc.devRef .tc main_v41) = uitofp .f32 (cmpf .olt (mulf (sitofp .f32 (Host.shrui (V (Proc.devRef .tc main_v32)) (fun _ => 9#32))) (fun _ => FloatOps.ofBits .f32 0x34000000#32)) (broadcastInDim S8x192x220x220 ![] bcast_S_S8x192x220x220 (V (Proc.devRef .tc main_arg1)))))
    ∧ (V (Proc.devRef .tc main_v42) = pad S8x192x228x228 ![0, 0, 4, 4] ![0, 0, 4, 4] ![0, 0, 0, 0] (V (Proc.devRef .tc main_v41)) (sitofp .f32 (constantI S_ 32 0#32)) pads_S8x192x220x220_S8x192x228x228_000_000_440_440 h_S_)
    ∧ (V (Proc.devRef .tc main_v44) = Host.reduceWindow FloatOps.maximumf ![1, 1, 5, 5] ![1, 1, 1, 1] ![0, 0, 0, 0] ![0, 0, 0, 0] (V (Proc.devRef .tc main_v42)) (broadcastInDim S_ ![] bcast_S_S_ (constant S_ .f32 0xFF800000#32)) reduceWindows_S8x192x228x228_S8x192x224x224_w1s1p0_0_w1s1p0_0_w5s1p0_0_w5s1p0_0 h_S_)
    ∧ (V (Proc.devRef .tc main_v46) = subf (fun _ => FloatOps.ofBits .f32 0x3F800000#32) (V (Proc.devRef .tc main_v44)))
    ∧ (V (Proc.devRef .tc main_v51) = mulf (mulf (V (Proc.devRef .tc main_v46)) (V (Proc.devRef .tc main_arg0)))
        (broadcastInDim S8x192x224x224 ![] bcast_S_S8x192x224x224 (Host.divf (constant S_ .f32 0x4C930000#32)
          (Host.reduceAdd (V (Proc.devRef .tc main_v46)) (constant S_ .f32 0x00000000#32) reducesTo_S8x192x224x224_S_d0_1_2_3 h_S_)))) := by
  dsimp only [mainOps, foldOps, padOps, List.cons_append, List.nil_append] at h
  obtain ⟨e_c, h⟩ := step h
  obtain ⟨e_c_0, h⟩ := step h
  obtain ⟨e_v0, h⟩ := step h
  obtain ⟨e_v1, h⟩ := step h
  obtain ⟨e_v2, h⟩ := step h
  obtain ⟨e_c_1, h⟩ := step h
  obtain ⟨e_v3, h⟩ := step h
  obtain ⟨e_v4, h⟩ := step h
  obtain ⟨e_v5, h⟩ := step h
  obtain ⟨e_v6, h⟩ := step h
  obtain ⟨e_c_2, h⟩ := step h
  obtain ⟨e_fc, h⟩ := step h
  obtain ⟨e_f0, h⟩ := step h
  obtain ⟨e_f1, h⟩ := step h
  obtain ⟨e_fc0, h⟩ := step h
  obtain ⟨e_f2, h⟩ := step h
  obtain ⟨e_f3, h⟩ := step h
  obtain ⟨e_f4, h⟩ := step h
  obtain ⟨e_f5, h⟩ := step h
  obtain ⟨e_f6, h⟩ := step h
  obtain ⟨e_f7, h⟩ := step h
  obtain ⟨e_f8, h⟩ := step h
  obtain ⟨e_f9, h⟩ := step h
  obtain ⟨e_f10, h⟩ := step h
  obtain ⟨h, hf⟩ := forall_append h
  obtain ⟨rk, h⟩ := forall_append h
  obtain ⟨rk, hk⟩ := forall_append rk
  obtain ⟨e_f12, -⟩ := step hk
  obtain ⟨e_v8, h⟩ := step h
  obtain ⟨e_v9, h⟩ := step h
  obtain ⟨e_v10, h⟩ := step h
  obtain ⟨e_v11, h⟩ := step h
  obtain ⟨e_v12, h⟩ := step h
  obtain ⟨e_v13, h⟩ := step h
  obtain ⟨e_v14, h⟩ := step h
  obtain ⟨e_v15, h⟩ := step h
  obtain ⟨e_c_3, h⟩ := step h
  obtain ⟨e_v16, h⟩ := step h
  obtain ⟨e_v17, h⟩ := step h
  obtain ⟨e_c_4, h⟩ := step h
  obtain ⟨e_v18, h⟩ := step h
  obtain ⟨e_v19, h⟩ := step h
  obtain ⟨e_c_5, h⟩ := step h
  obtain ⟨e_v20, h⟩ := step h
  obtain ⟨e_v21, h⟩ := step h
  obtain ⟨e_c_6, h⟩ := step h
  obtain ⟨e_v22, h⟩ := step h
  obtain ⟨e_v23, h⟩ := step h
  obtain ⟨e_v24, h⟩ := step h
  obtain ⟨e_v25, h⟩ := step h
  obtain ⟨e_v26, h⟩ := step h
  obtain ⟨e_c_7, h⟩ := step h
  obtain ⟨e_v27, h⟩ := step h
  obtain ⟨e_v28, h⟩ := step h
  obtain ⟨e_v29, h⟩ := step h
  obtain ⟨e_v30, h⟩ := step h
  obtain ⟨rb, h⟩ := forall_append h
  obtain ⟨e_v32, h⟩ := step h
  obtain ⟨e_c_8, h⟩ := step h
  obtain ⟨e_v33, h⟩ := step h
  obtain ⟨e_v34, h⟩ := step h
  obtain ⟨e_v35, h⟩ := step h
  obtain ⟨e_v36, h⟩ := step h
  obtain ⟨e_cst, h⟩ := step h
  obtain ⟨e_v37, h⟩ := step h
  obtain ⟨e_v38, h⟩ := step h
  obtain ⟨e_v39, h⟩ := step h
  obtain ⟨e_v40, h⟩ := step h
  obtain ⟨e_v41, h⟩ := step h
  obtain ⟨e_c_9, h⟩ := step h
  obtain ⟨e_p0, h⟩ := step h
  obtain ⟨e_p1, h⟩ := step h
  obtain ⟨e_cst_10, h⟩ := step h
  obtain ⟨e_v43, h⟩ := step h
  obtain ⟨e_v44, h⟩ := step h
  obtain ⟨e_cst_11, h⟩ := step h
  obtain ⟨e_v45, h⟩ := step h
  replace h := hf
  obtain ⟨e_v46, h⟩ := step h
  obtain ⟨e_cst_12, h⟩ := step h
  obtain ⟨e_v47, h⟩ := step h
  obtain ⟨e_v48, h⟩ := step h
  obtain ⟨e_cst_13, h⟩ := step h
  obtain ⟨e_v49, h⟩ := step h
  obtain ⟨e_v50, h⟩ := step h
  obtain ⟨e_v51, h⟩ := step h
  have o : S1.Idx := ix1 (0 : Fin 1)
  -- the key
  have z2 : ∀ i, V (Proc.devRef .tc main_v2) i = 0#32 := fun i => by
    rw [of_unary e_v2, of_unary e_v1, of_binary e_v0, of_nullary e_c_0, of_nullary e_c]; exact high_word0 i
  have z5 : ∀ i, V (Proc.devRef .tc main_v5) i = 0#32 := fun i => by
    rw [of_unary e_v5, of_unary e_v4, of_binary e_v3, of_nullary e_c_1, of_nullary e_c]; exact low_word0 i
  have k6 : val V main_call0.v6 ValueIdx.ix0 = 0#32 := by
    refine (congrFun (of_reshape e_f6) ValueIdx.ix0).trans ((one_word (V (Proc.devRef .tc main_call0_v5)) ValueIdx.ix0 o).trans ?_)
    refine (congrFun (val_unary e_f5) o).trans ?_
    refine (congrArg (fun v => extractStridedSlice S1 ![0] v slices_S2_S1_0 o) (of_binary e_v6)).trans ?_
    exact (joined_fst _ _ o).trans (z2 o)
  have k8 : val V main_call0.v8 ValueIdx.ix0 = 0#32 := by
    refine (congrFun (of_reshape e_f8) ValueIdx.ix0).trans ((one_word (V (Proc.devRef .tc main_call0_v7)) ValueIdx.ix0 o).trans ?_)
    refine (congrFun (val_unary e_f7) o).trans ?_
    refine (congrArg (fun v => extractStridedSlice S1 ![1] v slices_S2_S1_1 o) (of_binary e_v6)).trans ?_
    exact (joined_snd _ _ o).trans (z5 o)
  have c2 : val V (TRef.of main_c_2) = constantI S_ 32 123#32 := of_nullary e_c_2
  have z1 : val V main_call0.v1 o = 0#32 := by
    rw [val_unary e_f1, val_binary e_f0, val_nullary e_fc, c2]
    exact high_word o
  have z3 : val V main_call0.v3 o = 123#32 := by
    rw [val_unary e_f3, val_binary e_f2, val_nullary e_fc0, c2]
    exact low_word o
  have k9 : val V main_call0.v9 o = 0#32 :=
    (congrFun (val_unary e_f9) o).trans ((congrArg (fun v => extractStridedSlice S1 ![0] v slices_S2_S1_0 o) (val_binary e_f4)).trans ((joined_fst _ _ o).trans z1))
  have k10 : val V main_call0.v10 o = 123#32 :=
    (congrFun (val_unary e_f10) o).trans ((congrArg (fun v => extractStridedSlice S1 ![1] v slices_S2_S1_1 o) (val_binary e_f4)).trans ((joined_snd _ _ o).trans z3))
  have key : two V main_call0_call0.v171 main_call0_call0.v175 o = (2247515013#32, 2545468385#32) :=
    (rounds_ran rk o).trans ((threefry_congr k6 k8 k9 k10).trans key_eq)
  have key0 : V (Proc.devRef .tc main_v9) ValueIdx.ix0 = 2247515013#32 := by
    refine (congrFun (of_reshape e_v9) ValueIdx.ix0).trans ((one_word (V (Proc.devRef .tc main_v8)) ValueIdx.ix0 o).trans ?_)
    refine (congrFun (of_unary e_v8) o).trans ?_
    refine (congrArg (fun v => extractStridedSlice S1 ![0] v slices_S2_S1_0 o) (val_binary e_f12)).trans ?_
    exact (joined_fst _ _ o).trans (congrArg Prod.fst key)
  have key1 : V (Proc.devRef .tc main_v11) ValueIdx.ix0 = 2545468385#32 := by
    refine (congrFun (of_reshape e_v11) ValueIdx.ix0).trans ((one_word (V (Proc.devRef .tc main_v10)) ValueIdx.ix0 o).trans ?_)
    refine (congrFun (of_unary e_v10) o).trans ?_
    refine (congrArg (fun v => extractStridedSlice S1 ![1] v slices_S2_S1_1 o) (val_binary e_f12)).trans ?_
    exact (joined_snd _ _ o).trans (congrArg Prod.snd key)
  -- the counters
  have ct : ∀ i : S8x192x220x220.Idx, V (Proc.devRef .tc main_v26) i = 9292800#64 * BitVec.ofNat 64 (i 0).val + 48400#64 * BitVec.ofNat 64 (i 1).val
      + 220#64 * BitVec.ofNat 64 (i 2).val + 1#64 * BitVec.ofNat 64 (i 3).val := fun i => by
    rw [of_binary e_v26, of_binary e_v25, of_binary e_v24, of_binary e_v23, of_binary e_v21, of_binary e_v19, of_binary e_v17,
      of_unary e_v16, of_unary e_v18, of_unary e_v20, of_unary e_v22, of_nullary e_v12, of_nullary e_v13, of_nullary e_v14, of_nullary e_v15,
      of_nullary e_c_3, of_nullary e_c_4, of_nullary e_c_5, of_nullary e_c_6]
    rfl
  have hi : ∀ i : S8x192x220x220.Idx, V (Proc.devRef .tc main_v30) i = 0#32 := fun i => by
    rw [of_unary e_v30, of_binary e_v28, of_unary e_v27, of_nullary e_c_7]
    refine Eq.trans (b := (IntOp.shrui .host (V (Proc.devRef .tc main_v26) i) 32#64).setWidth 32) rfl ?_
    rw [ct]; exact counter_hi i
  have lo : ∀ i : S8x192x220x220.Idx, V (Proc.devRef .tc main_v29) i = BitVec.ofNat 32 (place i) := fun i => by
    rw [of_unary e_v29]
    refine Eq.trans (b := (V (Proc.devRef .tc main_v26) i).setWidth 32) rfl ?_
    rw [ct]; exact counter_lo i
  refine ⟨fun i => ?_, ?_, ?_, ?_, ?_, ?_⟩
  · have w : two V main_call1.v171 main_call1.v175 i = threefry 2247515013#32 2545468385#32 0#32 (BitVec.ofNat 32 (place i)) :=
      (rounds_ran_0 rb i).trans (threefry_congr key0 key1 (hi i) (lo i))
    have w0 : V (Proc.devRef .tc main_v31_0) i = (threefry 2247515013#32 2545468385#32 0#32 (BitVec.ofNat 32 (place i))).1 := congrArg Prod.fst w
    have w1 : V (Proc.devRef .tc main_v31_1) i = (threefry 2247515013#32 2545468385#32 0#32 (BitVec.ofNat 32 (place i))).2 := congrArg Prod.snd w
    have x : V (Proc.devRef .tc main_v32) i = xori (s := S8x192x220x220) (w := 32) (V (Proc.devRef .tc main_v31_0)) (V (Proc.devRef .tc main_v31_1)) i := congrFun (of_binary e_v32) i
    exact x.trans (congrArg₂ IntOp.xori w0 w1)
  · rw [of_unary e_v41, of_binary e_v40, of_unary e_v39, of_binary e_v38, of_unary e_v37, of_nullary e_cst, of_unary e_v36, of_unary e_v35, of_binary e_v34,
      of_unary e_v33, of_nullary e_c_8]
    rfl
  · refine (val_binary e_p1).trans ?_
    rw [val_unary e_p0]
    refine (congrArg (fun v => pad S8x192x228x228 ![0, 0, 4, 4] ![0, 0, 4, 4] ![0, 0, 0, 0] (V (Proc.devRef .tc main_v41)) (sitofp .f32 v) pads_S8x192x220x220_S8x192x228x228_000_000_440_440 h_S_) (of_nullary e_c_9)).trans ?_
    rfl
  · rw [of_binary e_v44, of_unary e_v43, of_nullary e_cst_10]
  · rw [of_binary e_v46, of_unary e_v45, of_nullary e_cst_11]
    rfl
  · rw [of_binary e_v51, of_binary e_v48, of_unary e_v50, of_binary e_v49, of_binary e_v47, of_nullary e_cst_12, of_nullary e_cst_13]

end Cert.ReferenceIdeal.Drop

end
-- ==== Proof.RefMaths.lean ====
/- Facts about numbers for the reference: the maximum of zeros and ones, and the count of the kept positions. -/
module

public import proofs.«01_k».proof.Proof.DropMaths

@[expose] public section

noncomputable section

namespace Cert.DropBlock

open Idealize.ShloMosaic
open scoped BigOperators

open Classical in
/-- A proposition as the number zero or one. -/
def oneIf (p : Prop) : EReal := if p then 1 else 0

theorem oneIf_true {p : Prop} (h : p) : oneIf p = 1 := if_pos h
theorem oneIf_false {p : Prop} (h : ¬p) : oneIf p = 0 := if_neg h
theorem oneIf_congr {p q : Prop} (h : p ↔ q) : oneIf p = oneIf q := by rw [propext h]

theorem max_oneIf (p q : Prop) : max (oneIf p) (oneIf q) = oneIf (p ∨ q) := by
  by_cases hp : p <;> by_cases hq : q <;> simp [oneIf, hp, hq]

theorem foldl_oneIf {ι : Type} (p : ι → Prop) : ∀ (l : List ι) (q : Prop),
    l.foldl (fun r n => max r (oneIf (p n))) (oneIf q) = oneIf (q ∨ ∃ n ∈ l, p n)
  | [], q => by simp
  | n :: l, q => by
    rw [List.foldl_cons, max_oneIf, foldl_oneIf p l]
    refine oneIf_congr ?_
    simp only [List.mem_cons, exists_eq_or_imp, or_assoc]

/-- The maximum of finitely many zeros and ones, at least one of them. -/
theorem foldl_oneIf_bot {N : ℕ} (p : Fin (N + 1) → Prop) :
    (List.finRange (N + 1)).foldl (fun r n => max r (oneIf (p n))) ⊥ = oneIf (∃ n, p n) := by
  rw [List.finRange_succ, List.foldl_cons, max_eq_right bot_le, foldl_oneIf]
  refine oneIf_congr ?_
  constructor
  · rintro (h | ⟨n, -, h⟩)
    · exact ⟨_, h⟩
    · exact ⟨_, h⟩
  · rintro ⟨n, h⟩
    rcases Fin.eq_zero_or_eq_succ n with rfl | ⟨m, rfl⟩
    · exact .inl h
    · exact .inr ⟨m.succ, List.mem_map.mpr ⟨m, List.mem_finRange m, rfl⟩, h⟩

theorem oneIf_dropped (S : ℕ → ℕ → ℕ → Prop) (s Y X : ℕ) : oneIf (Dropped S s Y X) = ((dropNat S s Y X : ℕ) : EReal) := by
  unfold oneIf dropNat; split <;> simp

theorem one_sub_nat {d : ℕ} (h : d ≤ 1) : (1 : EReal) - ((d : ℕ) : EReal) = (((1 - d : ℕ)) : EReal) := by
  have : d = 0 ∨ d = 1 := by omega
  rcases this with rfl | rfl
  · simp
  · rw [← coe_nat, ← EReal.coe_one, ← EReal.coe_sub]; norm_num

theorem sub_nat {a b : ℕ} (h : b ≤ a) : ((a : ℕ) : EReal) - ((b : ℕ) : EReal) = ((a - b : ℕ) : EReal) := by
  rw [← coe_nat, ← coe_nat, ← coe_nat, ← EReal.coe_sub, Nat.cast_sub h]

theorem sum_range_mul (f : ℕ → ℕ) (n : ℕ) : ∀ m : ℕ, ∑ a ∈ Finset.range m, ∑ b ∈ Finset.range n, f (a * n + b) = ∑ s ∈ Finset.range (m * n), f s
  | 0 => by simp
  | m + 1 => by rw [Finset.sum_range_succ, sum_range_mul f n m, Nat.succ_mul, Finset.sum_range_add]

/-- The samples counted in tiles of 24 are the samples counted by batch and channel. -/
theorem count_eq (D : ℕ → ℕ → ℕ → ℕ) :
    ∑ i ∈ Finset.range 64, ∑ Y : Fin 224, ∑ X : Fin 224, ∑ k ∈ Finset.range 24, D (24 * i + k) Y.val X.val
      = ∑ b : Fin 8, ∑ h : Fin 192, ∑ Y : Fin 224, ∑ X : Fin 224, D (b.val * 192 + h.val) Y.val X.val := by
  have hl : ∀ i, ∑ Y : Fin 224, ∑ X : Fin 224, ∑ k ∈ Finset.range 24, D (24 * i + k) Y.val X.val
      = ∑ k ∈ Finset.range 24, (fun s => ∑ Y : Fin 224, ∑ X : Fin 224, D s Y.val X.val) (i * 24 + k) := fun i => by
    have h : ∀ Y : Fin 224, ∑ X : Fin 224, ∑ k ∈ Finset.range 24, D (24 * i + k) Y.val X.val
        = ∑ k ∈ Finset.range 24, ∑ X : Fin 224, D (24 * i + k) Y.val X.val := fun Y => Finset.sum_comm
    rw [Finset.sum_congr rfl fun Y _ => h Y, Finset.sum_comm, Nat.mul_comm 24 i]
  rw [Finset.sum_congr rfl fun i _ => hl i, sum_range_mul (fun s => ∑ Y : Fin 224, ∑ X : Fin 224, D s Y.val X.val)]
  rw [show 64 * 24 = 8 * 192 from rfl, ← sum_range_mul, Finset.sum_range]
  refine Finset.sum_congr rfl fun b _ => ?_
  rw [Finset.sum_range]

/-- What is kept is everything less what is dropped. -/
theorem kept_eq {ι : Type} [Fintype ι] (d : ι → ℕ) (hd : ∀ i, d i ≤ 1) : ∑ i, (1 - d i) = Fintype.card ι - ∑ i, d i := by
  have h : ∑ i, (1 - d i) + ∑ i, d i = Fintype.card ι := by
    rw [← Finset.sum_add_distrib, Finset.sum_congr rfl fun i _ => Nat.sub_add_cancel (hd i)]
    simp
  omega

end Cert.DropBlock

end
-- ==== Proof.RefValue.lean ====
/- The reference's result at an index: the input where nothing is dropped, scaled by the count, and zero elsewhere. -/
module

public import proofs.«01_k».proof.Proof.RefEnds
public import proofs.«01_k».proof.Proof.RefMaths
public import Idealize.ShloMosaic.Lib.IdealHost
public import Idealize.ShloMosaic.Lib.KernelVsHost
public import Idealize.ShloMosaic.Lib.Pointwise.Index

@[expose] public section

set_option maxRecDepth 16384

noncomputable section

namespace Cert.ReferenceIdeal.Drop

open Idealize.ShloMosaic hiding ix0 ix1 ix2 ix3 ix4 eq_ix4
open Idealize.SL.Sem Idealize.ShloMosaic.StableHlo Idealize.ShloMosaic.ValueIdx
open Cert.ReferenceIdeal Cert.ReferenceIdeal.Gen Cert.DropBlock
open scoped BigOperators

/-- Where the reference's random number falls below the drop probability. -/
def seeds (g : EReal) (s y x : ℕ) : Prop :=
  ((((bitsOf (BitVec.ofNat 32 (s * 48400 + y * 220 + x)) >>> 9).toInt : ℝ)) : EReal) * Ideal.ofBits .f32 0x34000000#32 < g

instance (g : EReal) (s y x : ℕ) : Decidable (seeds g s y x) := inferInstanceAs (Decidable ((_ : EReal) < g))

theorem ofBool_number (p : Prop) [Decidable p] : ((((BitVec.ofBool (decide p)).toNat : ℝ)) : EReal) = oneIf p := by
  unfold oneIf
  by_cases h : p <;> simp [h]

/-- The seeds. -/
theorem seeds_apply (bits : IVec S8x192x220x220 32) (g : FVec Ideal S_ .f32) (i : S8x192x220x220.Idx) (hb : bits i = bitsOf (BitVec.ofNat 32 (place i))) :
    (uitofp .f32 (cmpf .olt (mulf (sitofp .f32 (Host.shrui bits (fun _ => 9#32))) (fun _ => FloatOps.ofBits .f32 0x34000000#32))
      (broadcastInDim S8x192x220x220 ![] bcast_S_S8x192x220x220 g)) : FVec Ideal S8x192x220x220 .f32) i
      = oneIf (seeds (g ix0) ((i 0).val * 192 + (i 1).val) (i 2).val (i 3).val) := by
  refine Eq.trans ?_ (ofBool_number _)
  have hg := broadcastInDim_scalar_apply bcast_S_S8x192x220x220 g i
  have hw : Host.shrui bits (fun _ => 9#32) i = bitsOf (BitVec.ofNat 32 (((i 0).val * 192 + (i 1).val) * 48400 + (i 2).val * 220 + (i 3).val)) >>> 9 := by
    show IntOp.shrui .host (bits i) 9#32 = _
    rw [hb]
    rfl
  show ((((BitVec.ofBool (decide ((((Host.shrui bits (fun _ => 9#32) i).toInt : ℝ) : EReal) * Ideal.ofBits .f32 0x34000000#32
    < broadcastInDim S8x192x220x220 ![] bcast_S_S8x192x220x220 g i))).toNat : ℝ)) : EReal) = _
  rw [hg, hw]
  rfl

/-- The seeds inside a border of four zeros. -/
theorem padded_apply (P : ℕ → ℕ → ℕ → Prop) (v : FVec Ideal S8x192x220x220 .f32) (hv : ∀ i, v i = oneIf (P ((i 0).val * 192 + (i 1).val) (i 2).val (i 3).val))
    (j : S8x192x228x228.Idx) :
    pad S8x192x228x228 ![0, 0, 4, 4] ![0, 0, 4, 4] ![0, 0, 0, 0] v (sitofp .f32 (constantI S_ 32 0#32) : FVec Ideal S_ .f32)
        pads_S8x192x220x220_S8x192x228x228_000_000_440_440 h_S_ j
      = oneIf (4 ≤ (j 2).val ∧ (j 2).val < 224 ∧ 4 ≤ (j 3).val ∧ (j 3).val < 224
          ∧ P ((j 0).val * 192 + (j 1).val) ((j 2).val - 4) ((j 3).val - 4)) := by
  have h0 : (j 0).val < 8 := (j 0).isLt
  have h1 : (j 1).val < 192 := (j 1).isLt
  by_cases h2 : 4 ≤ (j 2).val ∧ (j 2).val < 224
  · by_cases h3 : 4 ≤ (j 3).val ∧ (j 3).val < 224
    · rw [pad_apply_of_inside ![0, 0, 4, 4] ![0, 0, 4, 4] ![0, 0, 0, 0] v _ _ h_S_ j
        (ix4 (⟨(j 0).val, h0⟩ : Fin 8) (⟨(j 1).val, h1⟩ : Fin 192) (⟨(j 2).val - 4, by omega⟩ : Fin 220) (⟨(j 3).val - 4, by omega⟩ : Fin 220) : S8x192x220x220.Idx)
        (fun a => by
          fin_cases a
          · show (j 0).val = 0 + (j 0).val * (0 + 1); omega
          · show (j 1).val = 0 + (j 1).val * (0 + 1); omega
          · show (j 2).val = 4 + ((j 2).val - 4) * (0 + 1); omega
          · show (j 3).val = 4 + ((j 3).val - 4) * (0 + 1); omega), hv]
      refine oneIf_congr ?_
      show P ((j 0).val * 192 + (j 1).val) ((j 2).val - 4) ((j 3).val - 4) ↔ _
      exact ⟨fun h => ⟨h2.1, h2.2, h3.1, h3.2, h⟩, fun h => h.2.2.2.2⟩
    · rw [oneIf_false fun h => h3 ⟨h.2.2.1, h.2.2.2.1⟩]
      rw [pad_apply_of_not_inside ![0, 0, 4, 4] ![0, 0, 4, 4] ![0, 0, 0, 0] v _ _ h_S_ j 3 (by
        show ¬(4 ≤ (j 3).val ∧ ((j 3).val - 4) % (0 + 1) = 0 ∧ ((j 3).val - 4) / (0 + 1) < 220)
        omega)]
      show (((0#32 : BitVec 32).toInt : ℝ) : EReal) = 0
      simp
  · rw [oneIf_false fun h => h2 ⟨h.1, h.2.1⟩]
    rw [pad_apply_of_not_inside ![0, 0, 4, 4] ![0, 0, 4, 4] ![0, 0, 0, 0] v _ _ h_S_ j 2 (by
      show ¬(4 ≤ (j 2).val ∧ ((j 2).val - 4) % (0 + 1) = 0 ∧ ((j 2).val - 4) / (0 + 1) < 220)
      omega)]
    show (((0#32 : BitVec 32).toInt : ℝ) : EReal) = 0
    simp

/-- The window's shape. -/
abbrev Win : Shape := ⟨4, ![1, 1, 5, 5]⟩

/-- The place a window's entry reads. -/
def windowAt (j : S8x192x224x224.Idx) (w : Win.Idx) : S8x192x228x228.Idx :=
  have h0 : (j 0).val < 8 := (j 0).isLt
  have h1 : (j 1).val < 192 := (j 1).isLt
  have h2 : (j 2).val < 224 := (j 2).isLt
  have h3 : (j 3).val < 224 := (j 3).isLt
  have w2 : (w 2).val < 5 := (w 2).isLt
  have w3 : (w 3).val < 5 := (w 3).isLt
  ix4 (⟨(j 0).val, h0⟩ : Fin 8) (⟨(j 1).val, h1⟩ : Fin 192) (⟨(j 2).val + (w 2).val, by omega⟩ : Fin 228) (⟨(j 3).val + (w 3).val, by omega⟩ : Fin 228)

/-- The windows' maximum as a fold over the window's entries. -/
theorem windows_apply (x : FVec Ideal S8x192x228x228 .f32) (v : FVec Ideal S_ .f32) (j : S8x192x224x224.Idx) :
    Host.reduceWindow FloatOps.maximumf ![1, 1, 5, 5] ![1, 1, 1, 1] ![0, 0, 0, 0] ![0, 0, 0, 0] x v
        reduceWindows_S8x192x228x228_S8x192x224x224_w1s1p0_0_w1s1p0_0_w5s1p0_0_w5s1p0_0 h_S_ j
      = (List.finRange Win.numel).foldl (fun r n => max r (x (windowAt j (Win.rowMajor.symm n)))) (v (Shape.Idx.first h_S_)) := by
  unfold Host.reduceWindow
  refine congrArg (fun f : EReal → Fin Win.numel → EReal => (List.finRange Win.numel).foldl f (v (Shape.Idx.first h_S_))) ?_
  funext r n
  have h0 : (j 0).val < 8 := (j 0).isLt
  have h1 : (j 1).val < 192 := (j 1).isLt
  have h2 : (j 2).val < 224 := (j 2).isLt
  have h3 : (j 3).val < 224 := (j 3).isLt
  have w0 : (Win.rowMajor.symm n 0).val < 1 := (Win.rowMajor.symm n 0).isLt
  have w1 : (Win.rowMajor.symm n 1).val < 1 := (Win.rowMajor.symm n 1).isLt
  have w2 : (Win.rowMajor.symm n 2).val < 5 := (Win.rowMajor.symm n 2).isLt
  have w3 : (Win.rowMajor.symm n 3).val < 5 := (Win.rowMajor.symm n 3).isLt
  show max r _ = max r _
  refine congrArg (max r) ?_
  refine (dif_pos ?_).trans (congrArg x ?_)
  · intro a
    fin_cases a
    · show 0 ≤ (j 0).val * 1 + (Win.rowMajor.symm n 0).val ∧ (j 0).val * 1 + (Win.rowMajor.symm n 0).val - 0 < 8; omega
    · show 0 ≤ (j 1).val * 1 + (Win.rowMajor.symm n 1).val ∧ (j 1).val * 1 + (Win.rowMajor.symm n 1).val - 0 < 192; omega
    · show 0 ≤ (j 2).val * 1 + (Win.rowMajor.symm n 2).val ∧ (j 2).val * 1 + (Win.rowMajor.symm n 2).val - 0 < 228; omega
    · show 0 ≤ (j 3).val * 1 + (Win.rowMajor.symm n 3).val ∧ (j 3).val * 1 + (Win.rowMajor.symm n 3).val - 0 < 228; omega
  · funext a
    refine Fin.ext ?_
    fin_cases a
    · show (j 0).val * 1 + (Win.rowMajor.symm n 0).val - 0 = (j 0).val; omega
    · show (j 1).val * 1 + (Win.rowMajor.symm n 1).val - 0 = (j 1).val; omega
    · show (j 2).val * 1 + (Win.rowMajor.symm n 2).val - 0 = (j 2).val + (Win.rowMajor.symm n 2).val; omega
    · show (j 3).val * 1 + (Win.rowMajor.symm n 3).val - 0 = (j 3).val + (Win.rowMajor.symm n 3).val; omega

theorem win_numel : Win.numel = 24 + 1 := by decide

/-- The maximum over a list as long as another. -/
theorem foldl_cast {N M : ℕ} (h : N = M + 1) (p : Fin N → Prop) :
    (List.finRange N).foldl (fun r n => max r (oneIf (p n))) ⊥ = oneIf (∃ n, p n) := by
  subst h
  exact foldl_oneIf_bot p

/-- What is dropped, as the windows' maximum. -/
theorem dropped_apply (P : ℕ → ℕ → ℕ → Prop) (x : FVec Ideal S8x192x228x228 .f32) (v : FVec Ideal S_ .f32) (hv : ∀ i, v i = ⊥)
    (hx : ∀ j : S8x192x228x228.Idx, x j = oneIf (4 ≤ (j 2).val ∧ (j 2).val < 224 ∧ 4 ≤ (j 3).val ∧ (j 3).val < 224
          ∧ P ((j 0).val * 192 + (j 1).val) ((j 2).val - 4) ((j 3).val - 4))) (j : S8x192x224x224.Idx) :
    Host.reduceWindow FloatOps.maximumf ![1, 1, 5, 5] ![1, 1, 1, 1] ![0, 0, 0, 0] ![0, 0, 0, 0] x v
        reduceWindows_S8x192x228x228_S8x192x224x224_w1s1p0_0_w1s1p0_0_w5s1p0_0_w5s1p0_0 h_S_ j
      = ((dropNat P ((j 0).val * 192 + (j 1).val) (j 2).val (j 3).val : ℕ) : EReal) := by
  rw [windows_apply, hv]
  simp only [hx]
  rw [foldl_cast win_numel, ← oneIf_dropped]
  have h2 : (j 2).val < 224 := (j 2).isLt
  have h3 : (j 3).val < 224 := (j 3).isLt
  refine oneIf_congr ⟨?_, ?_⟩
  · rintro ⟨n, a, b, c, d, hP⟩
    have w2 : (Win.rowMajor.symm n 2).val < 5 := (Win.rowMajor.symm n 2).isLt
    have w3 : (Win.rowMajor.symm n 3).val < 5 := (Win.rowMajor.symm n 3).isLt
    have a' : 4 ≤ (j 2).val + (Win.rowMajor.symm n 2).val := a
    have b' : (j 2).val + (Win.rowMajor.symm n 2).val < 224 := b
    have c' : 4 ≤ (j 3).val + (Win.rowMajor.symm n 3).val := c
    have d' : (j 3).val + (Win.rowMajor.symm n 3).val < 224 := d
    exact ⟨(j 2).val + (Win.rowMajor.symm n 2).val - 4, (j 3).val + (Win.rowMajor.symm n 3).val - 4, by omega, by omega, by omega, by omega, by omega, by omega, hP⟩
  · rintro ⟨y, z, hy, hz, a, b, c, d, hP⟩
    refine ⟨Win.rowMajor (ix4 (0 : Fin 1) (0 : Fin 1) (⟨y + 4 - (j 2).val, by omega⟩ : Fin 5) (⟨z + 4 - (j 3).val, by omega⟩ : Fin 5)), ?_⟩
    rw [Equiv.symm_apply_apply]
    refine ⟨?_, ?_, ?_, ?_, ?_⟩
    · show 4 ≤ (j 2).val + (y + 4 - (j 2).val); omega
    · show (j 2).val + (y + 4 - (j 2).val) < 224; omega
    · show 4 ≤ (j 3).val + (z + 4 - (j 3).val); omega
    · show (j 3).val + (z + 4 - (j 3).val) < 224; omega
    · show P ((j 0).val * 192 + (j 1).val) ((j 2).val + (y + 4 - (j 2).val) - 4) ((j 3).val + (z + 4 - (j 3).val) - 4)
      rw [show (j 2).val + (y + 4 - (j 2).val) - 4 = y by omega, show (j 3).val + (z + 4 - (j 3).val) - 4 = z by omega]
      exact hP

/-- The count of the dropped places. -/
def dropTotal (P : ℕ → ℕ → ℕ → Prop) : ℕ := ∑ b : Fin 8, ∑ h : Fin 192, ∑ Y : Fin 224, ∑ X : Fin 224, dropNat P (b.val * 192 + h.val) Y.val X.val

theorem card_places : Fintype.card S8x192x224x224.Idx = 77070336 := by
  have e := sum_idx4 (n0 := 8) (n1 := 192) (n2 := 224) (n3 := 224) (fun _ => (1 : ℕ))
  simpa using e

/-- The count of the kept places. -/
theorem kept_count (P : ℕ → ℕ → ℕ → Prop) (x : FVec Ideal S8x192x224x224 .f32)
    (hx : ∀ j : S8x192x224x224.Idx, x j = ((1 - dropNat P ((j 0).val * 192 + (j 1).val) (j 2).val (j 3).val : ℕ) : EReal)) (i : S_.Idx) :
    Host.reduceAdd x (constant S_ .f32 0x00000000#32 : FVec Ideal S_ .f32) reducesTo_S8x192x224x224_S_d0_1_2_3 h_S_ i
      = ((77070336 - dropTotal P : ℕ) : EReal) := by
  rw [hostReduceAdd_apply, Ideal.hostReduceAdd_total _ (fun b => b.elim0)]
  have hz : (constant S_ .f32 0x00000000#32 : FVec Ideal S_ .f32) (Shape.Idx.first h_S_) = 0 := Ideal.ofBits_zero_f32
  rw [hz, zero_add, Finset.sum_congr rfl fun j _ => hx j, ← Nat.cast_sum]
  have hk := kept_eq (ι := S8x192x224x224.Idx) (fun j => dropNat P ((j 0).val * 192 + (j 1).val) (j 2).val (j 3).val) (fun _ => dropNat_le _ _ _ _)
  have hs : ∑ j : S8x192x224x224.Idx, dropNat P ((j 0).val * 192 + (j 1).val) (j 2).val (j 3).val = dropTotal P :=
    sum_idx4 (n0 := 8) (n1 := 192) (n2 := 224) (n3 := 224) (fun j => dropNat P ((j 0).val * 192 + (j 1).val) (j 2).val (j 3).val)
  rw [card_places, hs] at hk
  rw [hk]

/-- The last step, from the counts to the result. -/
theorem scaled_apply (v x : FVec Ideal S8x192x224x224 .f32) (j : S8x192x224x224.Idx) :
    mulf (mulf v x) (broadcastInDim S8x192x224x224 ![] bcast_S_S8x192x224x224 (Host.divf (constant S_ .f32 0x4C930000#32 : FVec Ideal S_ .f32)
      (Host.reduceAdd v (constant S_ .f32 0x00000000#32) reducesTo_S8x192x224x224_S_d0_1_2_3 h_S_))) j
      = v j * x j * Ideal.div (Ideal.ofBits .f32 0x4C930000#32) (Host.reduceAdd v (constant S_ .f32 0x00000000#32) reducesTo_S8x192x224x224_S_d0_1_2_3 h_S_ ix0) := by
  have e := broadcastInDim_scalar_apply bcast_S_S8x192x224x224 (Host.divf (constant S_ .f32 0x4C930000#32 : FVec Ideal S_ .f32)
    (Host.reduceAdd v (constant S_ .f32 0x00000000#32) reducesTo_S8x192x224x224_S_d0_1_2_3 h_S_)) j
  rw [hostDivf_apply] at e
  exact congrArg (fun t : EReal => v j * x j * t) e

/-- The reference's result, from its equations. -/
theorem result_eq {d : Dev nD} {V : Valuation τ sig (Elt Ideal)} (h : Ran V (mainOps (F := Ideal) d).1) (g : EReal)
    (hg : (V (Proc.devRef .tc main_arg1) : FVec Ideal S_ .f32) ix0 = g) (j : S8x192x224x224.Idx) :
    (V (Proc.devRef .tc main_v51) : FVec Ideal S8x192x224x224 .f32) j
      = ((1 - dropNat (seeds g) ((j 0).val * 192 + (j 1).val) (j 2).val (j 3).val : ℕ) : EReal) * (V (Proc.devRef .tc main_arg0) : FVec Ideal S8x192x224x224 .f32) j
        * Ideal.div ((77070336 : ℕ) : EReal) ((77070336 - dropTotal (seeds g) : ℕ) : EReal) := by
  obtain ⟨e32, e41, e42, e44, e46, e51⟩ := ends h
  have s1 : ∀ i, (V (Proc.devRef .tc main_v41) : FVec Ideal S8x192x220x220 .f32) i = oneIf (seeds g ((i 0).val * 192 + (i 1).val) (i 2).val (i 3).val) := fun i => by
    rw [e41, ← hg]
    exact seeds_apply _ _ i (e32 i)
  have s2 := padded_apply (seeds g) _ s1
  rw [← e42] at s2
  have hb : ∀ i, (broadcastInDim S_ ![] bcast_S_S_ (constant S_ .f32 0xFF800000#32 : FVec Ideal S_ .f32)) i = (⊥ : EReal) := fun i => by
    rw [broadcastInDim_scalar_apply]
    exact ofBits_bot
  have s3 := dropped_apply (seeds g) _ _ hb s2
  rw [← e44] at s3
  have s4 : ∀ j, (V (Proc.devRef .tc main_v46) : FVec Ideal S8x192x224x224 .f32) j
      = ((1 - dropNat (seeds g) ((j 0).val * 192 + (j 1).val) (j 2).val (j 3).val : ℕ) : EReal) := fun j => by
    rw [e46, ← one_sub_nat (dropNat_le _ _ _ _), ← s3 j, ← Ideal.ofBits_one_f32]
    rfl
  have s5 := kept_count (seeds g) _ s4 ix0
  rw [e51, ← s4 j, ← s5, ← ofBits_total]
  exact scaled_apply _ _ j

end Cert.ReferenceIdeal.Drop

end
-- ==== Proof.SeedsAgree.lean ====
/- The kernel's test of a random word against a threshold word is the reference's test of a random number. -/
module

public import proofs.«01_k».proof.Proof.RefValue

@[expose] public section

set_option maxRecDepth 16384

noncomputable section

namespace Cert.DropBlock

open Idealize.ShloMosaic

/-- A number between zero and the last one below one is real. -/
theorem gamma_real (g : EReal) (h0 : 0 ≤ g) (h1 : g ≤ Ideal.ofBits .f32 0x3F7FFFFE#32) :
    ∃ γ : ℝ, g = (γ : EReal) ∧ 0 ≤ γ ∧ γ ≤ 1 - 2 ^ (-23 : ℤ) := by
  rw [ofBits_last] at h1
  induction g using EReal.rec with
  | bot => exact absurd h0 (by simp)
  | top => exact absurd (top_le_iff.mp h1) (EReal.coe_ne_top _)
  | coe γ => exact ⟨γ, rfl, by exact_mod_cast h0, by exact_mod_cast h1⟩

/-- The threshold word of a probability. -/
theorem seeds_iff (g : EReal) (h0 : 0 ≤ g) (h1 : g ≤ Ideal.ofBits .f32 0x3F7FFFFE#32) (s y x : ℕ) :
    (bitsOf (BitVec.ofNat 32 (s * 48400 + y * 220 + x))).toNat
        < (IntOp.shli .host (Ideal.fptosi 32 (Ideal.liftRound Int.ceil (g * Ideal.ofBits .f32 0x4B000000#32))) 9#32).toNat
      ↔ Cert.ReferenceIdeal.Drop.seeds g s y x := by
  obtain ⟨γ, rfl, hγ0, hγ1⟩ := gamma_real g h0 h1
  have ht : IntOp.shli .host (Ideal.fptosi 32 (Ideal.liftRound Int.ceil ((γ : EReal) * Ideal.ofBits .f32 0x4B000000#32))) 9#32
      = Ideal.fptosi 32 ((⌈γ * 2 ^ 23⌉ : ℝ) : EReal) <<< 9 := by
    rw [ofBits_scale, ← EReal.coe_mul, Ideal.liftRound_coe]
    rfl
  rw [ht, threshold γ hγ0 hγ1]
  unfold Cert.ReferenceIdeal.Drop.seeds
  rw [ofBits_ulp, ← EReal.coe_mul]
  exact EReal.coe_lt_coe_iff.symm

end Cert.DropBlock

end
-- ==== Proof.Agree.lean ====
/- The kernel's result is the reference's. -/
module

public import proofs.«01_k».proof.Defs
public import proofs.«01_k».proof.Proof.KernelIdealValue
public import proofs.«01_k».proof.Proof.SeedsAgree

@[expose] public section

set_option maxRecDepth 16384

noncomputable section

namespace Cert.DropBlock

open Idealize.ShloMosaic Idealize.SL.Sem

/-- The two counts of what is dropped. -/
theorem total_eq (S : ℕ → ℕ → ℕ → Prop) : Cert.KernelIdeal.Drop.total S = Cert.ReferenceIdeal.Drop.dropTotal S := count_eq (dropNat S)

/-- The kernel's choice is the reference's product. -/
theorem outVal_eq (S : ℕ → ℕ → ℕ → Prop) (s Y X : ℕ) (x : EReal) :
    Cert.KernelIdeal.Drop.outVal S s Y X x
      = ((1 - dropNat S s Y X : ℕ) : EReal) * x * Ideal.div ((77070336 : ℕ) : EReal) ((77070336 - Cert.ReferenceIdeal.Drop.dropTotal S : ℕ) : EReal) := by
  unfold Cert.KernelIdeal.Drop.outVal
  rw [sub_nat (Cert.KernelIdeal.Drop.total_le S), total_eq]
  have hd := dropNat_le S s Y X
  split
  · next h => rw [h, Nat.sub_zero, Nat.cast_one, one_mul]
  · next h => rw [show 1 - dropNat S s Y X = 0 by omega, Nat.cast_zero, zero_mul, zero_mul]

theorem both_of_and {p q : Prop} [Decidable p] [Decidable q] (h : IntOp.andi (BitVec.ofBool (decide p)) (BitVec.ofBool (decide q)) = 1#1) : p ∧ q := by
  by_cases hp : p <;> by_cases hq : q <;> simp [hp, hq, IntOp.andi] at h ⊢

/-- What the precondition says of the drop probability. -/
theorem in_range [Cert.Pre_gamma_in_range.Facts] (x : FVec Ideal Cert.Pre_gamma_in_range.S8x192x224x224 .f32) (g : FVec Ideal Cert.Pre_gamma_in_range.S_ .f32)
    (h : Cert.Pre_gamma_in_range.fn (F := Ideal) x g = fun _ => 1#1) : (0 : EReal) ≤ g ValueIdx.ix0 ∧ (g ValueIdx.ix0 : EReal) ≤ Ideal.ofBits .f32 0x3F7FFFFE#32 := by
  have h' := both_of_and (p := (g ValueIdx.ix0 : EReal) ≥ Ideal.ofBits .f32 0x00000000#32) (q := (g ValueIdx.ix0 : EReal) ≤ Ideal.ofBits .f32 0x3F7FFFFE#32) (congrFun h ValueIdx.ix0)
  rw [Ideal.ofBits_zero_f32] at h'
  exact h'

/-- The results are equal, index by index. -/
theorem same_result [Cert.Pre_gamma_in_range.Facts] (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (hpre : Cert.Pre_KernelIdeal_gamma_in_range m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    StableHlo.after (Cert.ReferenceIdeal.Drop.mainOps (F := Ideal) c).1 (StableHlo.launchContents m' c) (Proc.devRef .tc Cert.ReferenceIdeal.main_v51)
      = Cert.KernelIdeal.Drop.W6 m ρ c (Proc.devRef .tc Cert.KernelIdeal.main_v10) := by
  have hr := Cert.ReferenceIdeal.Drop.fixed (Cert.ReferenceIdeal.Drop.main_inOrder (F := Ideal) c) (StableHlo.launchContents m' c)
  have a0 := Cert.ReferenceIdeal.Drop.after_low (Cert.ReferenceIdeal.Drop.main_inOrder (F := Ideal) c) (StableHlo.launchContents m' c) Cert.ReferenceIdeal.main_arg0 (by decide)
  have a1 := Cert.ReferenceIdeal.Drop.after_low (Cert.ReferenceIdeal.Drop.main_inOrder (F := Ideal) c) (StableHlo.launchContents m' c) Cert.ReferenceIdeal.main_arg1 (by decide)
  have g0 := a0.trans h0
  have g1 := a1.trans h1
  obtain ⟨hlo, hhi⟩ := in_range _ _ (hpre c)
  have hs : Cert.KernelIdeal.Drop.seedsOf m c = Cert.ReferenceIdeal.Drop.seeds (Cert.KernelIdeal.Drop.gammaOf m c) :=
    funext fun s => funext fun y => funext fun x => propext (seeds_iff (Cert.KernelIdeal.Drop.gammaOf m c) hlo hhi s y x)
  have hv := Cert.ReferenceIdeal.Drop.result_eq hr (Cert.KernelIdeal.Drop.gammaOf m c) (congrFun g1 ValueIdx.ix0)
  funext j
  refine (hv j).trans ?_
  refine Eq.trans ?_ (congrArg (Cert.KernelIdeal.Drop.W6 m ρ c (Proc.devRef .tc Cert.KernelIdeal.main_v10)) (ValueIdx.eq_ix4 (n0 := 8) (n1 := 192) (n2 := 224) (n3 := 224) j).symm)
  refine Eq.trans ?_ (Cert.KernelIdeal.Drop.result_apply m ρ c (j 0) (j 1) (j 2) (j 3)).symm
  rw [hs, outVal_eq]
  have hx := (congrFun g0 j).trans (congrArg (m ((c.tc : Thread Cert.KernelIdeal.nD Cert.KernelIdeal.τ).loc Cert.KernelIdeal.main_arg0)) (ValueIdx.eq_ix4 (n0 := 8) (n1 := 192) (n2 := 224) (n3 := 224) j))
  exact congrArg (fun t : EReal => _ * t * _) hx

end Cert.DropBlock

end
-- ==== Proof.lean ====
module

public import proofs.«01_k».proof.Defs
public import proofs.«01_k».proof.Proof.KernelRun
public import proofs.«01_k».proof.Proof.Agree
public import Idealize.ShloMosaic.Adequacy
public import Idealize.ShloMosaic.Init

@[expose] public section

noncomputable section

namespace Cert.Proof

open Idealize.ShloMosaic Idealize.SL.Sem

instance range_facts : Cert.Pre_gamma_in_range.Facts := {}

theorem frame_kernel : @Cert.quiescent_Kernel Cert.Kernel.Gen.facts := fun m g _ =>
  θ_run_mono (Cert.Kernel.Drop.run m g) fun r h => ⟨fun c => ⟨(h.1 c).1, (h.1 c).2.1⟩, h.2⟩

theorem frame_kernelIdeal : @Cert.quiescent_KernelIdeal Cert.KernelIdeal.Gen.facts := fun m g _ =>
  θ_run_mono (Cert.KernelIdeal.Drop.run m g) fun r h => ⟨fun c => ⟨(h.1 c).1, (h.1 c).2.1⟩, h.2⟩

theorem frame_reference : @Cert.quiescent_ReferenceIdeal Cert.ReferenceIdeal.Gen.facts := fun m g _ =>
  θ_run_mono (Cert.ReferenceIdeal.Drop.run_all m g) fun r h => ⟨fun c =>
    ⟨(h.1 c _).trans (Cert.ReferenceIdeal.Drop.after_low (Cert.ReferenceIdeal.Drop.main_inOrder c) _ _ (by decide)),
     (h.1 c _).trans (Cert.ReferenceIdeal.Drop.after_low (Cert.ReferenceIdeal.Drop.main_inOrder c) _ _ (by decide))⟩, h.2⟩

theorem same_value : @Cert.algebraic_KernelIdeal_ReferenceIdeal_pre_gamma_in_range Cert.KernelIdeal.Gen.facts Cert.ReferenceIdeal.Gen.facts range_facts :=
  fun m g m' g' hpre hargs =>
    ⟨fun c => Cert.KernelIdeal.Drop.W6 m g c (Proc.devRef .tc Cert.KernelIdeal.main_v10),
      θ_run_mono (Cert.KernelIdeal.Drop.run m g) fun r h c => ⟨(h.1 c).2.2, (h.1 c).1, (h.1 c).2.1⟩,
      θ_run_mono (Cert.ReferenceIdeal.Drop.run_all m' g') fun r h c =>
        ⟨(h.1 c _).trans (Cert.DropBlock.same_result m g m' hpre c (hargs c).1 (hargs c).2),
         (h.1 c _).trans (Cert.ReferenceIdeal.Drop.after_low (Cert.ReferenceIdeal.Drop.main_inOrder c) _ _ (by decide)),
         (h.1 c _).trans (Cert.ReferenceIdeal.Drop.after_low (Cert.ReferenceIdeal.Drop.main_inOrder c) _ _ (by decide))⟩⟩

theorem claim : Cert.Claim :=
  ⟨Cert.Kernel.Gen.facts, Cert.KernelIdeal.Gen.facts, Cert.ReferenceIdeal.Gen.facts, range_facts, frame_kernel, frame_kernelIdeal,
    fun m g _ => frame_kernelIdeal m g trivial, frame_reference, fun m g _ => frame_reference m g trivial, trivial, same_value⟩

end Cert.Proof

end
